-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_three_nearest_untied [hPre_finite_and_three_nearest_untied : Cert.Pre_finite_and_three_nearest_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_three_nearest_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_and_three_nearest_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_and_three_nearest_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_and_three_nearest_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_and_three_nearest_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_and_three_nearest_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_and_three_nearest_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_three_nearest_untied [hPre_finite_and_three_nearest_untied : Cert.Pre_finite_and_three_nearest_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_three_nearest_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_and_three_nearest_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_and_three_nearest_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_and_three_nearest_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_and_three_nearest_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_and_three_nearest_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_and_three_nearest_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_and_three_nearest_untied [hKernelIdeal : Cert.KernelIdeal.Facts] [hPre_finite_and_three_nearest_untied : Cert.Pre_finite_and_three_nearest_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_three_nearest_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_and_three_nearest_untied [hReferenceIdeal : Cert.ReferenceIdeal.Facts] [hPre_finite_and_three_nearest_untied : Cert.Pre_finite_and_three_nearest_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_three_nearest_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_and_three_nearest_untied [hKernelIdeal : Cert.KernelIdeal.Facts] [hReferenceIdeal : Cert.ReferenceIdeal.Facts] [hPre_finite_and_three_nearest_untied : Cert.Pre_finite_and_three_nearest_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_three_nearest_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_and_three_nearest_untied : Cert.Pre_finite_and_three_nearest_untied.Facts),
    quiescent_Kernel (hKernel := hKernel)
    ∧ quiescent_KernelIdeal (hKernelIdeal := hKernelIdeal)
    ∧ quiescent_KernelIdeal_pre_finite_and_three_nearest_untied (hKernelIdeal := hKernelIdeal) (hPre_finite_and_three_nearest_untied := hPre_finite_and_three_nearest_untied)
    ∧ quiescent_ReferenceIdeal (hReferenceIdeal := hReferenceIdeal)
    ∧ quiescent_ReferenceIdeal_pre_finite_and_three_nearest_untied (hReferenceIdeal := hReferenceIdeal) (hPre_finite_and_three_nearest_untied := hPre_finite_and_three_nearest_untied)
    ∧ preserves_Kernel_KernelIdeal
    ∧ algebraic_KernelIdeal_ReferenceIdeal_pre_finite_and_three_nearest_untied (hKernelIdeal := hKernelIdeal) (hReferenceIdeal := hReferenceIdeal) (hPre_finite_and_three_nearest_untied := hPre_finite_and_three_nearest_untied)
-- ==== Pre_finite_and_three_nearest_untied.lean ====
abbrev S2x2048x512 : Shape := ⟨3, ![2, 2048, 512]⟩
abbrev S2x2048x3 : Shape := ⟨3, ![2, 2048, 3]⟩
abbrev S2x8192x256 : Shape := ⟨3, ![2, 8192, 256]⟩
abbrev S2x8192x3 : Shape := ⟨3, ![2, 8192, 3]⟩
abbrev S256x512 : Shape := ⟨2, ![256, 512]⟩
abbrev S256 : Shape := ⟨1, ![256]⟩
abbrev S256x256 : Shape := ⟨2, ![256, 256]⟩
abbrev S2x8192x1x3 : Shape := ⟨4, ![2, 8192, 1, 3]⟩
abbrev S2x1x2048x3 : Shape := ⟨4, ![2, 1, 2048, 3]⟩
abbrev S2x8192x2048x3 : Shape := ⟨4, ![2, 8192, 2048, 3]⟩
abbrev S_ : Shape := ⟨0, ![]⟩
abbrev S2x8192x2048 : Shape := ⟨3, ![2, 8192, 2048]⟩
abbrev S2x8192x4 : Shape := ⟨3, ![2, 8192, 4]⟩

class Facts : Prop where
  bcast_S2x8192x3_S2x8192x1x3_0_1_3 : S2x8192x3.BroadcastsInDim S2x8192x1x3 (![0, 1, 3] : Fin 3 → Fin S2x8192x1x3.rank)
  bcast_S2x2048x3_S2x1x2048x3_0_2_3 : S2x2048x3.BroadcastsInDim S2x1x2048x3 (![0, 2, 3] : Fin 3 → Fin S2x1x2048x3.rank)
  bcast_S2x8192x1x3_S2x8192x2048x3_0_1_2_3 : S2x8192x1x3.BroadcastsInDim S2x8192x2048x3 (![0, 1, 2, 3] : Fin 4 → Fin S2x8192x2048x3.rank)
  bcast_S2x1x2048x3_S2x8192x2048x3_0_1_2_3 : S2x1x2048x3.BroadcastsInDim S2x8192x2048x3 (![0, 1, 2, 3] : Fin 4 → Fin S2x8192x2048x3.rank)
  reducesTo_S2x8192x2048x3_S2x8192x2048_d3 : S2x8192x2048x3.ReducesTo [3] S2x8192x2048
  h_S_ : 0 < S_.numel
  sliceFits_S2x8192x2048_S2x8192x4 : S2x8192x2048.Slices (fun _ => 0) S2x8192x4
  bcast_S_S2x2048x512 : S_.BroadcastsInDim S2x2048x512 (![] : Fin 0 → Fin S2x2048x512.rank)
  bcast_S_S2x8192x256 : S_.BroadcastsInDim S2x8192x256 (![] : Fin 0 → Fin S2x8192x256.rank)
  bcast_S_S256x512 : S_.BroadcastsInDim S256x512 (![] : Fin 0 → Fin S256x512.rank)
  bcast_S_S256x256 : S_.BroadcastsInDim S256x256 (![] : Fin 0 → Fin S256x256.rank)
  bcast_S_S256 : S_.BroadcastsInDim S256 (![] : Fin 0 → Fin S256.rank)
  slices_S2x8192x4_S2x8192x3_0_0_1 : S2x8192x4.Slices ![0, 0, 1] S2x8192x3
  slices_S2x8192x4_S2x8192x3_0_0_0 : S2x8192x4.Slices ![0, 0, 0] S2x8192x3

variable [Facts]

def fn_part1 {F : FTy → Type} [FloatOps F] (main_arg5 : FVec F S256 .f32) (main_arg8 : FVec F S256 .f32) (main_values : FVec F S2x8192x4 .f32) (main_v10 : IVec S2x2048x512 1) (main_v13 : IVec S2x8192x256 1) (main_v16 : IVec S256x512 1) (main_v17 : FVec F S256x256 .f32) : IVec S2x2048x512 1 × IVec S2x8192x256 1 × IVec S256x512 1 × IVec S256x256 1 × IVec S256 1 × IVec S256 1 × IVec S2x8192x3 1 :=
  let main_cst_3 : FVec F S_ .f32 := constant S_ .f32 0x7F800000#32
  let main_v18 : FVec F S256x256 .f32 := broadcastInDim S256x256 ![] bcast_S_S256x256 main_cst_3
  let main_v19 : IVec S256x256 1 := cmpf .olt main_v17 main_v18
  let main_v20 : FVec F S256 .f32 := Host.absf main_arg5
  let main_cst_4 : FVec F S_ .f32 := constant S_ .f32 0x7F800000#32
  let main_v21 : FVec F S256 .f32 := broadcastInDim S256 ![] bcast_S_S256 main_cst_4
  let main_v22 : IVec S256 1 := cmpf .olt main_v20 main_v21
  let main_v23 : FVec F S256 .f32 := Host.absf main_arg8
  let main_cst_5 : FVec F S_ .f32 := constant S_ .f32 0x7F800000#32
  let main_v24 : FVec F S256 .f32 := broadcastInDim S256 ![] bcast_S_S256 main_cst_5
  let main_v25 : IVec S256 1 := cmpf .olt main_v23 main_v24
  let main_v26 : FVec F S2x8192x3 .f32 := (extractStridedSlice S2x8192x3 ![0, 0, 1] · slices_S2x8192x4_S2x8192x3_0_0_1) main_values
  let main_v27 : FVec F S2x8192x3 .f32 := (extractStridedSlice S2x8192x3 ![0, 0, 0] · slices_S2x8192x4_S2x8192x3_0_0_0) main_values
  let main_v28 : IVec S2x8192x3 1 := cmpf .olt main_v26 main_v27
  (main_v10, main_v13, main_v16, main_v19, main_v22, main_v25, main_v28)

def fn {F : FTy → Type} [FloatOps F] (main_arg0 : FVec F S2x2048x512 .f32) (main_arg1 : FVec F S2x2048x3 .f32) (main_arg2 : FVec F S2x8192x256 .f32) (main_arg3 : FVec F S2x8192x3 .f32) (main_arg4 : FVec F S256x512 .f32) (main_arg5 : FVec F S256 .f32) (main_arg6 : FVec F S256 .f32) (main_arg7 : FVec F S256x256 .f32) (main_arg8 : FVec F S256 .f32) (main_arg9 : FVec F S256 .f32) : IVec S2x2048x512 1 × IVec S2x8192x256 1 × IVec S256x512 1 × IVec S256x256 1 × IVec S256 1 × IVec S256 1 × IVec S2x8192x3 1 :=
  let main_v0 : FVec F S2x8192x1x3 .f32 := broadcastInDim S2x8192x1x3 ![0, 1, 3] bcast_S2x8192x3_S2x8192x1x3_0_1_3 main_arg3
  let main_v1 : FVec F S2x1x2048x3 .f32 := broadcastInDim S2x1x2048x3 ![0, 2, 3] bcast_S2x2048x3_S2x1x2048x3_0_2_3 main_arg1
  let main_v2 : FVec F S2x8192x2048x3 .f32 := broadcastInDim S2x8192x2048x3 ![0, 1, 2, 3] bcast_S2x8192x1x3_S2x8192x2048x3_0_1_2_3 main_v0
  let main_v3 : FVec F S2x8192x2048x3 .f32 := broadcastInDim S2x8192x2048x3 ![0, 1, 2, 3] bcast_S2x1x2048x3_S2x8192x2048x3_0_1_2_3 main_v1
  let main_v4 : FVec F S2x8192x2048x3 .f32 := subf main_v2 main_v3
  let main_v5 : FVec F S2x8192x2048x3 .f32 := mulf main_v4 main_v4
  let main_cst : FVec F S_ .f32 := constant S_ .f32 0x00000000#32
  let main_v6 : FVec F S2x8192x2048 .f32 := (fun x v => Host.reduceAdd x v reducesTo_S2x8192x2048x3_S2x8192x2048_d3 h_S_) main_v5 main_cst
  let main_v7 : FVec F S2x8192x2048 .f32 := Host.negf main_v6
  let main_values : FVec F S2x8192x4 .f32 := (fun x => (Host.topK S2x8192x4 2 (FloatOps.cmpfTotal .gt) x sliceFits_S2x8192x2048_S2x8192x4).1) main_v7
  let main_indices : IVec S2x8192x4 32 := (fun x => (Host.topK S2x8192x4 2 (FloatOps.cmpfTotal .gt) x sliceFits_S2x8192x2048_S2x8192x4).2) main_v7
  let main_v8 : FVec F S2x2048x512 .f32 := Host.absf main_arg0
  let main_cst_0 : FVec F S_ .f32 := constant S_ .f32 0x7F800000#32
  let main_v9 : FVec F S2x2048x512 .f32 := broadcastInDim S2x2048x512 ![] bcast_S_S2x2048x512 main_cst_0
  let main_v10 : IVec S2x2048x512 1 := cmpf .olt main_v8 main_v9
  let main_v11 : FVec F S2x8192x256 .f32 := Host.absf main_arg2
  let main_cst_1 : FVec F S_ .f32 := constant S_ .f32 0x7F800000#32
  let main_v12 : FVec F S2x8192x256 .f32 := broadcastInDim S2x8192x256 ![] bcast_S_S2x8192x256 main_cst_1
  let main_v13 : IVec S2x8192x256 1 := cmpf .olt main_v11 main_v12
  let main_v14 : FVec F S256x512 .f32 := Host.absf main_arg4
  let main_cst_2 : FVec F S_ .f32 := constant S_ .f32 0x7F800000#32
  let main_v15 : FVec F S256x512 .f32 := broadcastInDim S256x512 ![] bcast_S_S256x512 main_cst_2
  let main_v16 : IVec S256x512 1 := cmpf .olt main_v14 main_v15
  let main_v17 : FVec F S256x256 .f32 := Host.absf main_arg7
  fn_part1 (F := F) main_arg5 main_arg8 main_values main_v10 main_v13 main_v16 main_v17
-- ==== Kernel.lean ====
abbrev S2x2048x512 : Shape := ⟨3, ![2, 2048, 512]⟩
abbrev S2x2048x3 : Shape := ⟨3, ![2, 2048, 3]⟩
abbrev S2x8192x256 : Shape := ⟨3, ![2, 8192, 256]⟩
abbrev S2x8192x3 : Shape := ⟨3, ![2, 8192, 3]⟩
abbrev S256x512 : Shape := ⟨2, ![256, 512]⟩
abbrev S256 : Shape := ⟨1, ![256]⟩
abbrev S256x256 : Shape := ⟨2, ![256, 256]⟩
abbrev S4096x512 : Shape := ⟨2, ![4096, 512]⟩
abbrev S16384x256 : Shape := ⟨2, ![16384, 256]⟩
abbrev S1x256 : Shape := ⟨2, ![1, 256]⟩
abbrev S4x256 : Shape := ⟨2, ![4, 256]⟩
abbrev S2x3x2048 : Shape := ⟨3, ![2, 3, 2048]⟩
abbrev S4096x256 : Shape := ⟨2, ![4096, 256]⟩
abbrev S1x3x2048 : Shape := ⟨3, ![1, 3, 2048]⟩
abbrev S1x1024x3 : Shape := ⟨3, ![1, 1024, 3]⟩
abbrev S1x1024x256 : Shape := ⟨3, ![1, 1024, 256]⟩
abbrev S2x256 : Shape := ⟨2, ![2, 256]⟩
abbrev S1024x3 : Shape := ⟨2, ![1024, 3]⟩
abbrev S3x2048 : Shape := ⟨2, ![3, 2048]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S2048x256 : Shape := ⟨2, ![2048, 256]⟩
abbrev S1024x256 : Shape := ⟨2, ![1024, 256]⟩

abbrev nBuf : Space → Nat
  | .hbm => 19
  | .vmem => 16
  | .smem => 0
  | _ => 0

abbrev bufTy : (tb : Table) → Fin (tcTables nBuf tb) → BufTy
  | .hbm, ⟨0, _⟩ => ⟨S2x2048x512, .f32⟩
  | .hbm, ⟨1, _⟩ => ⟨S2x2048x3, .f32⟩
  | .hbm, ⟨2, _⟩ => ⟨S2x8192x256, .f32⟩
  | .hbm, ⟨3, _⟩ => ⟨S2x8192x3, .f32⟩
  | .hbm, ⟨4, _⟩ => ⟨S256x512, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S4096x512, .f32⟩
  | .hbm, ⟨11, _⟩ => ⟨S16384x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S4x256, .f32⟩
  | .hbm, ⟨17, _⟩ => ⟨S2x3x2048, .f32⟩
  | .hbm, ⟨18, _⟩ => ⟨S2x8192x256, .f32⟩
  | .local _ .vmem, ⟨0, _⟩ => ⟨S4096x512, .f32⟩
  | .local _ .vmem, ⟨1, _⟩ => ⟨S4096x256, .f32⟩
  | .local _ .vmem, ⟨2, _⟩ => ⟨S4096x256, .f32⟩
  | .local _ .vmem, ⟨3, _⟩ => ⟨S256x512, .f32⟩
  | .local _ .vmem, ⟨4, _⟩ => ⟨S256x256, .f32⟩
  | .local _ .vmem, ⟨5, _⟩ => ⟨S1x3x2048, .f32⟩
  | .local _ .vmem, ⟨6, _⟩ => ⟨S1x3x2048, .f32⟩
  | .local _ .vmem, ⟨7, _⟩ => ⟨S1x1024x3, .f32⟩
  | .local _ .vmem, ⟨8, _⟩ => ⟨S1x1024x3, .f32⟩
  | .local _ .vmem, ⟨9, _⟩ => ⟨S4x256, .f32⟩
  | .local _ .vmem, ⟨10, _⟩ => ⟨S1x1024x256, .f32⟩
  | .local _ .vmem, ⟨11, _⟩ => ⟨S1x1024x256, .f32⟩
  | .local _ .vmem, ⟨12, _⟩ => ⟨S4096x256, .f32⟩
  | .local _ .vmem, ⟨13, _⟩ => ⟨S16384x256, .f32⟩
  | .local _ .vmem, ⟨14, _⟩ => ⟨S4x256, .f32⟩
  | .local _ .vmem, ⟨15, _⟩ => ⟨S4x256, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_v0_0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c4096_i32 : BitVec 32 := 4096#32
  let v16 : BitVec 32 := Scalar.muli arg0 c4096_i32
  let v17 : Index := Scalar.indexCast v16
  let c0_9 : Index := 0#32
  ![v17.toNat, 0]
def k0_cond4 (i : grid0.Coords) : BitVec 1 :=
  let arg0 : BitVec 32 := BitVec.ofNat 32 (i 0).val
  let c4_i32_4 : BitVec 32 := 4#32
  let v9 : BitVec 1 := Scalar.cmpi .sge arg0 c4_i32_4
  let v10 : BitVec 32 := Scalar.extui v9
  let c0_i32_5 : BitVec 32 := 0#32
  let v11 : BitVec 1 := Scalar.cmpi .ne v10 c0_i32_5
  v11

def k0_off2 (i : grid0.Coords) : Fin 2 → Nat :=
  let arg0 : BitVec 32 := BitVec.ofNat 32 (i 0).val
  let c4_i32_6 : BitVec 32 := 4#32
  let v12 : BitVec 32 := Scalar.subi arg0 c4_i32_6
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c8_i32 : BitVec 32 := 8#32
  let c0_i32_9 : BitVec 32 := 0#32
  let v19 : BitVec 1 := Scalar.cmpi .sgt c8_i32 c0_i32_9
  let v20 : BitVec 32 := Scalar.extui v19
  let c0_i32_10 : BitVec 32 := 0#32
  let v21 : BitVec 1 := Scalar.cmpi .slt c8_i32 c0_i32_10
  let v22 : BitVec 32 := Scalar.extui v21
  let v23 : BitVec 32 := Scalar.subi v20 v22
  let v24 : BitVec 1 := Scalar.cmpi .ne v18 v23
  let v25 : BitVec 32 := Scalar.remsi v12 c8_i32
  let c0_i32_11 : BitVec 32 := 0#32
  let v26 : BitVec 1 := Scalar.cmpi .ne v25 c0_i32_11
  let v27 : BitVec 1 := Scalar.andi v24 v26
  let v13 : BitVec 32 := Scalar.divsi v12 c8_i32
  let c1_i32 : BitVec 32 := 1#32
  let v28 : BitVec 32 := Scalar.subi v13 c1_i32
  let v29 : BitVec 32 := Scalar.select v27 v28 v13
  let c2048_i32 : BitVec 32 := 2048#32
  let v101 : BitVec 32 := Scalar.muli v29 c2048_i32
  let v102 : Index := Scalar.indexCast v101
  let c0_28 : Index := 0#32
  ![v102.toNat, 0]
def k0_off3 (i : grid0.Coords) : Fin 2 → Nat :=
  let arg0 : BitVec 32 := BitVec.ofNat 32 (i 0).val
  let c4_i32_6 : BitVec 32 := 4#32
  let v12 : BitVec 32 := Scalar.subi arg0 c4_i32_6
  let c1024_i32 : BitVec 32 := 1024#32
  let v105 : BitVec 32 := Scalar.muli v12 c1024_i32
  let v106 : Index := Scalar.indexCast v105
  let c0_30 : Index := 0#32
  ![v106.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let v0 : BitVec 1 := Scalar.cmpi .slt arg0 c4_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let v19 : BitVec 32 := Scalar.select v0 c0_i32_5 v18
  let c0_i32_6 : BitVec 32 := 0#32
  let c0_i32_7 : BitVec 32 := 0#32
  let c0_i32_8 : BitVec 32 := 0#32
  ![v19.toNat, c0_i32_6.toNat, c0_i32_7.toNat]

def cc0_transform_5 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let v19 : BitVec 32 := Scalar.select v0 c0_i32_5 v18
  let c4_i32_6 : BitVec 32 := 4#32
  let v20 : BitVec 1 := Scalar.cmpi .slt arg0 c4_i32_6
  let c4_i32_7 : BitVec 32 := 4#32
  let v21 : BitVec 32 := Scalar.subi arg0 c4_i32_7
  let c8_i32_8 : BitVec 32 := 8#32
  let c0_i32_9 : BitVec 32 := 0#32
  let v22 : BitVec 1 := Scalar.cmpi .eq c8_i32_8 c0_i32_9
  let c1_i32_10 : BitVec 32 := 1#32
  let v23 : BitVec 32 := Scalar.select v22 c1_i32_10 c8_i32_8
  let v24 : BitVec 32 := Scalar.remsi v21 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let c0_i32_14 : BitVec 32 := 0#32
  let v32 : BitVec 32 := Scalar.select v20 c0_i32_14 v31
  let c0_i32_15 : BitVec 32 := 0#32
  let c0_i32_16 : BitVec 32 := 0#32
  ![v19.toNat, v32.toNat, c0_i32_15.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let v19 : BitVec 32 := Scalar.select v0 c0_i32_5 v18
  let c4_i32_6 : BitVec 32 := 4#32
  let v20 : BitVec 1 := Scalar.cmpi .slt arg0 c4_i32_6
  let c4_i32_7 : BitVec 32 := 4#32
  let v21 : BitVec 32 := Scalar.subi arg0 c4_i32_7
  let c8_i32_8 : BitVec 32 := 8#32
  let c0_i32_9 : BitVec 32 := 0#32
  let v22 : BitVec 1 := Scalar.cmpi .eq c8_i32_8 c0_i32_9
  let c1_i32_10 : BitVec 32 := 1#32
  let v23 : BitVec 32 := Scalar.select v22 c1_i32_10 c8_i32_8
  let v24 : BitVec 32 := Scalar.remsi v21 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let c0_i32_14 : BitVec 32 := 0#32
  let v32 : BitVec 32 := Scalar.select v20 c0_i32_14 v31
  let c0_i32_15 : BitVec 32 := 0#32
  let c0_i32_16 : BitVec 32 := 0#32
  ![v19.toNat, v32.toNat, c0_i32_15.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x2048x512 : Shape := ⟨3, ![2, 2048, 512]⟩
abbrev S2x2048x3 : Shape := ⟨3, ![2, 2048, 3]⟩
abbrev S2x8192x256 : Shape := ⟨3, ![2, 8192, 256]⟩
abbrev S2x8192x3 : Shape := ⟨3, ![2, 8192, 3]⟩
abbrev S256x512 : Shape := ⟨2, ![256, 512]⟩
abbrev S256 : Shape := ⟨1, ![256]⟩
abbrev S256x256 : Shape := ⟨2, ![256, 256]⟩
abbrev S2x2048x256 : Shape := ⟨3, ![2, 2048, 256]⟩
abbrev S_ : Shape := ⟨0, ![]⟩
abbrev S1x1x256 : Shape := ⟨3, ![1, 1, 256]⟩
abbrev S2x8192x1x3 : Shape := ⟨4, ![2, 8192, 1, 3]⟩
abbrev S2x1x2048x3 : Shape := ⟨4, ![2, 1, 2048, 3]⟩
abbrev S2x8192x2048x3 : Shape := ⟨4, ![2, 8192, 2048, 3]⟩
abbrev S2x8192x2048 : Shape := ⟨3, ![2, 8192, 2048]⟩
abbrev S2 : Shape := ⟨1, ![2]⟩
abbrev S2x1x1 : Shape := ⟨3, ![2, 1, 1]⟩
abbrev S2x8192x3x1 : Shape := ⟨4, ![2, 8192, 3, 1]⟩
abbrev S2x8192x3x2 : Shape := ⟨4, ![2, 8192, 3, 2]⟩
abbrev S2x8192x3x256 : Shape := ⟨4, ![2, 8192, 3, 256]⟩
abbrev S2x8192 : Shape := ⟨2, ![2, 8192]⟩
abbrev S2x8192x1 : Shape := ⟨3, ![2, 8192, 1]⟩

abbrev nBuf : Space → Nat
  | .hbm => 128
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x3, .f32⟩
  | .hbm, ⟨2, _⟩ => ⟨S2x8192x256, .f32⟩
  | .hbm, ⟨3, _⟩ => ⟨S2x8192x3, .f32⟩
  | .hbm, ⟨4, _⟩ => ⟨S256x512, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S2x2048x256, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S1x1x256, .f32⟩
  | .hbm, ⟨17, _⟩ => ⟨S2x2048x256, .f32⟩
  | .hbm, ⟨18, _⟩ => ⟨S2x2048x256, .f32⟩
  | .hbm, ⟨19, _⟩ => ⟨S2x2048x256, .f32⟩
  | .hbm, ⟨20, _⟩ => ⟨S_, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S1x1x256, .f32⟩
  | .hbm, ⟨26, _⟩ => ⟨S2x2048x256, .f32⟩
  | .hbm, ⟨27, _⟩ => ⟨S2x2048x256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S1x1x256, .f32⟩
  | .hbm, ⟨33, _⟩ => ⟨S2x2048x256, .f32⟩
  | .hbm, ⟨34, _⟩ => ⟨S2x2048x256, .f32⟩
  | .hbm, ⟨35, _⟩ => ⟨S1x1x256, .f32⟩
  | .hbm, ⟨36, _⟩ => ⟨S2x2048x256, .f32⟩
  | .hbm, ⟨37, _⟩ => ⟨S2x2048x256, .f32⟩
  | .hbm, ⟨38, _⟩ => ⟨S1x1x256, .f32⟩
  | .hbm, ⟨39, _⟩ => ⟨S2x2048x256, .f32⟩
  | .hbm, ⟨40, _⟩ => ⟨S2x2048x256, .f32⟩
  | .hbm, ⟨41, _⟩ => ⟨S_, .f32⟩
  | .hbm, ⟨42, _⟩ => ⟨S2x2048x256, .f32⟩
  | .hbm, ⟨43, _⟩ => ⟨S2x2048x256, .f32⟩
  | .hbm, ⟨44, _⟩ => ⟨S2x8192x1x3, .f32⟩
  | .hbm, ⟨45, _⟩ => ⟨S2x1x2048x3, .f32⟩
  | .hbm, ⟨46, _⟩ => ⟨S2x8192x2048x3, .f32⟩
  | .hbm, ⟨47, _⟩ => ⟨S2x8192x2048x3, .f32⟩
  | .hbm, ⟨48, _⟩ => ⟨S2x8192x2048x3, .f32⟩
  | .hbm, ⟨49, _⟩ => ⟨S2x8192x2048x3, .f32⟩
  | .hbm, ⟨50, _⟩ => ⟨S_, .f32⟩
  | .hbm, ⟨51, _⟩ => ⟨S2x8192x2048, .f32⟩
  | .hbm, ⟨52, _⟩ => ⟨S2x8192x2048, .f32⟩
  | .hbm, ⟨53, _⟩ => ⟨S2x8192x3, .f32⟩
  | .hbm, ⟨54, _⟩ => ⟨S2x8192x3, .i32⟩
  | .hbm, ⟨55, _⟩ => ⟨S2x8192x3, .f32⟩
  | .hbm, ⟨56, _⟩ => ⟨S_, .f32⟩
  | .hbm, ⟨57, _⟩ => ⟨S2x8192x3, .f32⟩
  | .hbm, ⟨58, _⟩ => ⟨S2x8192x3, .f32⟩
  | .hbm, ⟨59, _⟩ => ⟨S_, .f32⟩
  | .hbm, ⟨60, _⟩ => ⟨S2x8192x3, .f32⟩
  | .hbm, ⟨61, _⟩ => ⟨S2x8192x3, .f32⟩
  | .hbm, ⟨62, _⟩ => ⟨S2, .i32⟩
  | .hbm, ⟨63, _⟩ => ⟨S2x1x1, .i32⟩
  | .hbm, ⟨64, _⟩ => ⟨S_, .i32⟩
  | .hbm, ⟨65, _⟩ => ⟨S2x1x1, .i32⟩
  | .hbm, ⟨66, _⟩ => ⟨S2x1x1, .i1⟩
  | .hbm, ⟨67, _⟩ => ⟨S_, .i32⟩
  | .hbm, ⟨68, _⟩ => ⟨S2x1x1, .i32⟩
  | .hbm, ⟨69, _⟩ => ⟨S2x1x1, .i32⟩
  | .hbm, ⟨70, _⟩ => ⟨S2x1x1, .i32⟩
  | .hbm, ⟨71, _⟩ => ⟨S_, .i32⟩
  | .hbm, ⟨72, _⟩ => ⟨S2x8192x3, .i32⟩
  | .hbm, ⟨73, _⟩ => ⟨S2x8192x3, .i1⟩
  | .hbm, ⟨74, _⟩ => ⟨S_, .i32⟩
  | .hbm, ⟨75, _⟩ => ⟨S2x8192x3, .i32⟩
  | .hbm, ⟨76, _⟩ => ⟨S2x8192x3, .i32⟩
  | .hbm, ⟨77, _⟩ => ⟨S2x8192x3, .i32⟩
  | .hbm, ⟨78, _⟩ => ⟨S2x8192x3, .i32⟩
  | .hbm, ⟨79, _⟩ => ⟨S2x8192x3x1, .i32⟩
  | .hbm, ⟨80, _⟩ => ⟨S2x8192x3x1, .i32⟩
  | .hbm, ⟨81, _⟩ => ⟨S2x8192x3x2, .i32⟩
  | .hbm, ⟨82, _⟩ => ⟨S2x8192x3x256, .f32⟩
  | .hbm, ⟨83, _⟩ => ⟨S2x8192x3x1, .f32⟩
  | .hbm, ⟨84, _⟩ => ⟨S2x8192x3x256, .f32⟩
  | .hbm, ⟨85, _⟩ => ⟨S2x8192x3x256, .f32⟩
  | .hbm, ⟨86, _⟩ => ⟨S_, .f32⟩
  | .hbm, ⟨87, _⟩ => ⟨S2x8192x256, .f32⟩
  | .hbm, ⟨88, _⟩ => ⟨S_, .f32⟩
  | .hbm, ⟨89, _⟩ => ⟨S2x8192, .f32⟩
  | .hbm, ⟨90, _⟩ => ⟨S2x8192x1, .f32⟩
  | .hbm, ⟨91, _⟩ => ⟨S2x8192x256, .f32⟩
  | .hbm, ⟨92, _⟩ => ⟨S2x8192x256, .f32⟩
  | .hbm, ⟨93, _⟩ => ⟨S2x8192x256, .f32⟩
  | .hbm, ⟨94, _⟩ => ⟨S_, .f32⟩
  | .hbm, ⟨95, _⟩ => ⟨S256, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S1x1x256, .f32⟩
  | .hbm, ⟨100, _⟩ => ⟨S2x8192x256, .f32⟩
  | .hbm, ⟨101, _⟩ => ⟨S2x8192x256, .f32⟩
  | .hbm, ⟨102, _⟩ => ⟨S2x8192x256, .f32⟩
  | .hbm, ⟨103, _⟩ => ⟨S_, .f32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S1x1x256, .f32⟩
  | .hbm, ⟨109, _⟩ => ⟨S2x8192x256, .f32⟩
  | .hbm, ⟨110, _⟩ => ⟨S2x8192x256, .f32⟩
  | .hbm, ⟨111, _⟩ => ⟨S_, .f32⟩
  | .hbm, ⟨112, _⟩ => ⟨S256, .f32⟩
  | .hbm, ⟨113, _⟩ => ⟨S256, .f32⟩
  | .hbm, ⟨114, _⟩ => ⟨S256, .f32⟩
  | .hbm, ⟨115, _⟩ => ⟨S1x1x256, .f32⟩
  | .hbm, ⟨116, _⟩ => ⟨S2x8192x256, .f32⟩
  | .hbm, ⟨117, _⟩ => ⟨S2x8192x256, .f32⟩
  | .hbm, ⟨118, _⟩ => ⟨S1x1x256, .f32⟩
  | .hbm, ⟨119, _⟩ => ⟨S2x8192x256, .f32⟩
  | .hbm, ⟨120, _⟩ => ⟨S2x8192x256, .f32⟩
  | .hbm, ⟨121, _⟩ => ⟨S1x1x256, .f32⟩
  | .hbm, ⟨122, _⟩ => ⟨S2x8192x256, .f32⟩
  | .hbm, ⟨123, _⟩ => ⟨S2x8192x256, .f32⟩
  | .hbm, ⟨124, _⟩ => ⟨S_, .f32⟩
  | .hbm, ⟨125, _⟩ => ⟨S2x8192x256, .f32⟩
  | .hbm, ⟨126, _⟩ => ⟨S2x8192x256, .f32⟩
  | .hbm, ⟨127, _⟩ => ⟨S2x8192x256, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_cst : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_values : Ref sig .tc := ⟨.hbm, 53, rfl⟩
abbrev main_indices : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call1_cst : Ref sig .tc := ⟨.hbm, 124, rfl⟩
abbrev main_call1_v0 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]
-- ==== Proof.KernelFrame.Runs.lean ====
/- What the runs of the body at its four kinds of grid point share: the branch conditions in closed form, the staging
   and scratch memrefs, the region's invariant opened, and the frame from a run that forgets the output window. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 5 rfl).trans ((hA c 5).trans (V_main_arg3 m c)),
      (Pipeline.RDat.FramePost.arr_in h c 2 rfl).trans ((hA c 2).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 3 rfl).trans ((hA c 3).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, e0]
    word_cmp
   : ∀ t : Fin grid0.N, cond0_0 (grid0.coords t) ↔ t.val % 20 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 4#32)) 0#32) = 1#1
/-- It holds at point 4 only — by arithmetic of the point. -/
theorem hcond0_2 : ∀ t : Fin cfg0.N, cond0_2 (grid0.coords t) ↔ t.val % 20 = 4 :=
  (fun t => by
    have ht : t.val < 20 := Nat.lt_of_lt_of_eq t.isLt N_0
    have e0 : (grid0.coords t 0).val = t.val / 1 % 20 := Pipeline.Grid.coords_val t 0 (by decide) rfl
    simp only [cond0_2, e0]
    word_cmp
   : ∀ t : Fin grid0.N, cond0_2 (grid0.coords t) ↔ t.val % 20 = 4)

/-- The condition of the body's `scf.if` 3 (`k0_h4`), from the grid coordinates (the skeleton's scalar
    chain substituted). -/
abbrev cond0_3 (i : grid0.Coords) : Prop := k0_cond4 i = 1#1
/-- It holds at the points from point 4 on — decided over the grid. -/
theorem hcond0_3 : ∀ t : Fin cfg0.N, cond0_3 (grid0.coords t) ↔ 4 ≤ t.val :=
  (by decide +kernel : ∀ t : Fin grid0.N, cond0_3 (grid0.coords t) ↔ 4 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x512 .f32 := win0_0.stage (cfg0.slots t 0)
/-- The staging buffer of window 0 is a whole buffer. -/
abbrev hs0_0 (t : Fin cfg0.N) : (ms0_0 t).IsWhole := hstage0_0 ((cfg0.slots t 0).cast nbuf0_0)
/-- The staging buffer window 1 uses at a point. -/
abbrev ms0_1 (t : Fin cfg0.N) : Memref sig .tc .vmem S4096x256 .f32 := win0_1.stage (cfg0.slots t 1)
/-- The staging buffer of window 1 is a whole buffer. -/
abbrev hs0_1 (t : Fin cfg0.N) : (ms0_1 t).IsWhole := hstage0_1 ((cfg0.slots t 1).cast nbuf0_1)
/-- The staging buffer window 2 uses at a point. -/
abbrev ms0_2 (t : Fin cfg0.N) : Memref sig .tc .vmem S256x512 .f32 := win0_2.stage (cfg0.slots t 2)
/-- The staging buffer of window 2 is a whole buffer. -/
abbrev hs0_2 (t : Fin cfg0.N) : (ms0_2 t).IsWhole := hstage0_2 ((cfg0.slots t 2).cast nbuf0_2)
/-- The staging buffer window 3 uses at a point. -/
abbrev ms0_3 (t : Fin cfg0.N) : Memref sig .tc .vmem S256x256 .f32 := win0_3.stage (cfg0.slots t 3)
/-- The staging buffer of window 3 is a whole buffer. -/
abbrev hs0_3 (t : Fin cfg0.N) : (ms0_3 t).IsWhole := hstage0_3 ((cfg0.slots t 3).cast nbuf0_3)
/-- The staging buffer window 4 uses at a point. -/
abbrev ms0_4 (t : Fin cfg0.N) : Memref sig .tc .vmem S1x3x2048 .f32 := win0_4.stage (cfg0.slots t 4)
/-- The staging buffer of window 4 is a whole buffer. -/
abbrev hs0_4 (t : Fin cfg0.N) : (ms0_4 t).IsWhole := hstage0_4 ((cfg0.slots t 4).cast nbuf0_4)
/-- The staging buffer window 5 uses at a point. -/
abbrev ms0_5 (t : Fin cfg0.N) : Memref sig .tc .vmem S1x1024x3 .f32 := win0_5.stage (cfg0.slots t 5)
/-- The staging buffer of window 5 is a whole buffer. -/
abbrev hs0_5 (t : Fin cfg0.N) : (ms0_5 t).IsWhole := hstage0_5 ((cfg0.slots t 5).cast nbuf0_5)
/-- The staging buffer window 6 uses at a point. -/
abbrev ms0_6 (t : Fin cfg0.N) : Memref sig .tc .vmem S4x256 .f32 := win0_6.stage (cfg0.slots t 6)
/-- The staging buffer of window 6 is a whole buffer. -/
abbrev hs0_6 (t : Fin cfg0.N) : (ms0_6 t).IsWhole := hstage0_6 ((cfg0.slots t 6).cast nbuf0_6)
/-- The staging buffer window 7 uses at a point. -/
abbrev ms0_7 (t : Fin cfg0.N) : Memref sig .tc .vmem S1x1024x256 .f32 := win0_7.stage (cfg0.slots t 7)
/-- The staging buffer of window 7 is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4096x256 .f32 := Memref.whole cc0_scratch0
/-- Scratch buffer 1, whole. -/
abbrev scM0_1 : Memref sig .tc .vmem S16384x256 .f32 := Memref.whole cc0_scratch1
/-- Scratch buffer 2, whole. -/
abbrev scM0_2 : Memref sig .tc .vmem S4x256 .f32 := Memref.whole cc0_scratch2
/-- Scratch buffer 3, whole. -/
abbrev scM0_3 : Memref sig .tc .vmem S4x256 .f32 := Memref.whole cc0_scratch3
/-- The scratch `arg9` the kernel carries between points, as a view: what it holds is stated through it. -/
abbrev VS0_0 : View sig .tc .vmem S4096x256 .f32 := scM0_0.view
/-- The scratch `arg11` the kernel carries between points, as a view: what it holds is stated through it. -/
abbrev VS0_2 : View sig .tc .vmem S4x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelFrame.RunA.lean ====
/- The run of the whole body at the grid points of case A. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_A (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) :
    Σ' (LS0 : List (View.Piece (Elt F) S4096x256 .f32)), { LS2 : List (View.Piece (Elt F) S4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.Kernel.Gen

end
-- ==== Proof.KernelFrame.RunB.lean ====
/- The run of the whole body at the grid points of case B. -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_B (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) :
    Σ' (LS0 : List (View.Piece (Elt F) S4096x256 .f32)), { LS2 : List (View.Piece (Elt F) S4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ (arg11.view.loc (c : Thread nD τ) ↦[arg11.view.set]{fullShare} arg11.view.writes (Elt F) (harg11.unread xs2) LS2) ∗ (∃ d, owns (c : Thread nD τ) arg12 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨[], ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg11.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]; · iexact HS2
    iexists _, _; isplitr; swap; · iexact HS3
    ipureintro; rfl

end Cert.Kernel.Gen

end
-- ==== Proof.KernelFrame.RunC.lean ====
/- The kernel's frame at the point where it normalises the activations: the body's run there -/
module

public import proofs.«01_k».proof.Proof.KernelFrame.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the one point where the activations are normalised the rows read start at row zero. -/
theorem off2_of_cond0_2 : ∀ i : grid0.Coords, cond0_2 i → k0_off2 i = ![0, 0] := by decide +kernel

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 taken: points 4), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_C (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) :
    Σ' (LS0 : List (View.Piece (Elt F) S4096x256 .f32)), { LS2 : List (View.Piece (Elt F) S4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ owns (c : Thread nD τ) arg11 fullShare xs2 ∗ (∃ d, owns (c : Thread nD τ) arg12 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, [], fun E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg11.eq_unread hfs2
    letI : ClosedOff (k0_off2 i) := ⟨![0, 0], off2_of_cond0_2 i hc2⟩
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _; isplitr; · ipureintro; exact harg11.read_unread _
      iexact HS2
    iexists _, _; isplitr; swap; · iexact HS3
    ipureintro; rfl

end Cert.Kernel.Gen

end
-- ==== Proof.KernelFrame.RunD.lean ====
/- The kernel's frame at the point where it normalises the activations: the body's run at the later points -/
module

public import proofs.«01_k».proof.Proof.KernelFrame.RunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 5, 6, … 19: 15 of 20), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_D (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : ¬cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) :
    Σ' (LS0 : List (View.Piece (Elt F) S4096x256 .f32)), { LS2 : List (View.Piece (Elt F) S4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨[], [], fun E K => ?run⟩
  case run =>
    simp only [cc0__body_eq_skeleton]; unfold cc0__body_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg11.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _; isplitr; · ipureintro; exact harg11.read_unread _
      iexact HS2
    iexists _, _; isplitr; swap; · iexact HS3
    ipureintro; rfl

end Cert.Kernel.Gen

end
-- ==== Proof.KernelFrame.Frame.lean ====
/- The kernel's frame at the point where it normalises the activations: the run of the whole program from the runs of its body -/
module

public import proofs.«01_k».proof.Proof.KernelFrame.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 1 piece of `S4096x256` tiling it (Lib/Ring.lean `Piece.tiledL`). -/
theorem scover0_A_0 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (y : S4096x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6).1 S4096x256.size (by sl_kernel_rfl) y

/-- What case A leaves in scratch `arg9`: its pieces read back over junk. -/
def sout0_A_0 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) : Vec F S4096x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6).1)

/-- Case A's pieces for scratch `arg11`, which the kernel carries between points, cover it: 5 pieces (stores and landed copies) of several sizes (`S1x256`, `S2x256`) tiling it when cut into blocks of `![1, 256]` (Lib/Ring.lean `Piece.tiledBy`). -/
theorem scover0_A_2 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (y : S4x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6).2.1 ![1, 256] (by sl_kernel_rfl) y

/-- What case A leaves in scratch `arg11`: its pieces read back over junk. -/
def sout0_A_2 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) : Vec F S4x256 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6).2.1)

/-- Case B stores nothing into scratch `arg9`: it holds what the point before left. -/
def sout0_B_0 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) : Vec F S4096x256 .f32 := xs0

/-- What case B leaves in scratch `arg11`: its pieces (stores, a counted loop's segment) read back over what the point before left there, which it read first. -/
def sout0_B_2 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) : Vec F S4x256 .f32 :=
  arg11.view.read (Elt F) (arg11.view.writes (Elt F) (harg11.unread xs2) (kernelRun0_B c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs2).2.1)

/-- Case C's pieces for scratch `arg9`, which the kernel carries between points, cover it: 1 piece of `S4096x256` tiling it (Lib/Ring.lean `Piece.tiledL`). -/
theorem scover0_C_0 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) (y : S4096x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs2).1 S4096x256.size (by sl_kernel_rfl) y

/-- What case C leaves in scratch `arg9`: its pieces read back over junk. -/
def sout0_C_0 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) : Vec F S4096x256 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs2).1)

/-- Case C stores nothing into scratch `arg11`: it holds what the point before left. -/
def sout0_C_2 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) : Vec F S4x256 .f32 := xs2

/-- Case D stores nothing into scratch `arg9`: it holds what the point before left. -/
def sout0_D_0 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : ¬cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) : Vec F S4096x256 .f32 := xs0

/-- Case D stores nothing into scratch `arg11`: it holds what the point before left. -/
def sout0_D_2 (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : ¬cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (xs0 : Vec F S4096x256 .f32) (xs2 : Vec F S4x256 .f32) : Vec F S4x256 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4096x256 .f32 × Vec F S4x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 20 = 0 then
      if h1 : (n + 1) < 4 then
        if h2 : (n + 1) % 20 = 4 then
          False.elim (by have hN : n + 1 < 20 := lt_of_lt_of_eq hn (show cfg0.N = 20 from N_0); omega)
        else
          if h3 : 4 ≤ (n + 1) then
            False.elim (by have hN : n + 1 < 20 := lt_of_lt_of_eq hn (show cfg0.N = 20 from N_0); omega)
          else
            (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        False.elim (by have hN : n + 1 < 20 := lt_of_lt_of_eq hn (show cfg0.N = 20 from N_0); omega)
    else
      if h1 : (n + 1) < 4 then
        if h2 : (n + 1) % 20 = 4 then
          False.elim (by have hN : n + 1 < 20 := lt_of_lt_of_eq hn (show cfg0.N = 20 from N_0); omega)
        else
          if h3 : 4 ≤ (n + 1) then
            False.elim (by have hN : n + 1 < 20 := lt_of_lt_of_eq hn (show cfg0.N = 20 from N_0); omega)
          else
            (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
      else
        if h2 : (n + 1) % 20 = 4 then
          if h3 : 4 ≤ (n + 1) then
            (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
          else
            False.elim (by have hN : n + 1 < 20 := lt_of_lt_of_eq hn (show cfg0.N = 20 from N_0); omega)
        else
          if h3 : 4 ≤ (n + 1) then
            (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)
          else
            False.elim (by have hN : n + 1 < 20 := lt_of_lt_of_eq hn (show cfg0.N = 20 from N_0); omega)

/-- `outsAt0` at a point of case A: that case's contents. -/
theorem outsAt0_A (c : Dev nD) (t : Fin cfg0.N) (h0 : t.val % 20 = 0) (h1 : t.val < 4) (h2 : ¬t.val % 20 = 4) (h3 : ¬4 ≤ t.val) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 20 = 0) (h1 : t.val < 4) (h2 : ¬t.val % 20 = 4) (h3 : ¬4 ≤ t.val) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 20 = 0) (h1 : ¬t.val < 4) (h2 : t.val % 20 = 4) (h3 : 4 ≤ t.val) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- `outsAt0` at a point of case D: that case's contents, over what the point before left. -/
theorem outsAt0_D (c : Dev nD) (t : Fin cfg0.N) (h0 : ¬t.val % 20 = 0) (h1 : ¬t.val < 4) (h2 : ¬t.val % 20 = 4) (h3 : 4 ≤ t.val) :
    outsAt0 m c t.val t.isLt = (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d)) ∗ (∃ r, prngReg c r))

/-- Before the first point the invariant is what the launch hands over. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ owns (c : Thread nD τ) scM0_2 fullShare ((outsAt0 m c (n - 1) (by omega)).2) ∗ (∃ d, owns (c : Thread nD τ) scM0_3 fullShare d)) ∗ (∃ r, prngReg c r)) := by
  cases n with
  | zero => exact absurd rfl hz
  | succ n => rfl

/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- After a point the buffer of window 1 holds its block still. -/
theorem after0_1 (c : Dev nD) (t : Fin cfg0.N) : (dats m 0 c).after 1 t = iblk m c 1 t := by dsimp only [dats]
/-- After a point the buffer of window 2 holds its block still. -/
theorem after0_2 (c : Dev nD) (t : Fin cfg0.N) : (dats m 0 c).after 2 t = iblk m c 2 t := by dsimp only [dats]
/-- After a point the buffer of window 3 holds its block still. -/
theorem after0_3 (c : Dev nD) (t : Fin cfg0.N) : (dats m 0 c).after 3 t = iblk m c 3 t := by dsimp only [dats]
/-- After a point the buffer of window 4 holds its block still. -/
theorem after0_4 (c : Dev nD) (t : Fin cfg0.N) : (dats m 0 c).after 4 t = iblk m c 4 t := by dsimp only [dats]
/-- After a point the buffer of window 5 holds its block still. -/
theorem after0_5 (c : Dev nD) (t : Fin cfg0.N) : (dats m 0 c).after 5 t = iblk m c 5 t := by dsimp only [dats]
/-- After a point the buffer of window 6 holds its block still. -/
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a point the buffer of window 1 holds its block. -/
theorem before0_1 (c : Dev nD) (t : Fin cfg0.N) (d) : (dats m 0 c).before 1 t d = iblk m c 1 t :=
  before0_1_of m (dats m 0 c) (A_eq m c 1) (after0_1 m c) t d
/-- Before a point the buffer of window 2 holds its block. -/
theorem before0_2 (c : Dev nD) (t : Fin cfg0.N) (d) : (dats m 0 c).before 2 t d = iblk m c 2 t :=
  before0_2_of m (dats m 0 c) (A_eq m c 2) (after0_2 m c) t d
/-- Before a point the buffer of window 3 holds its block. -/
theorem before0_3 (c : Dev nD) (t : Fin cfg0.N) (d) : (dats m 0 c).before 3 t d = iblk m c 3 t :=
  before0_3_of m (dats m 0 c) (A_eq m c 3) (after0_3 m c) t d
/-- Before a point the buffer of window 4 holds its block. -/
theorem before0_4 (c : Dev nD) (t : Fin cfg0.N) (d) : (dats m 0 c).before 4 t d = iblk m c 4 t :=
  before0_4_of m (dats m 0 c) (A_eq m c 4) (after0_4 m c) t d
/-- Before a point the buffer of window 5 holds its block. -/
theorem before0_5 (c : Dev nD) (t : Fin cfg0.N) (d) : (dats m 0 c).before 5 t d = iblk m c 5 t :=
  before0_5_of m (dats m 0 c) (A_eq m c 5) (after0_5 m c) t d
/-- Before a point the buffer of window 6 holds its block. -/
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  by_cases h0 : t.val % 20 = 0
  · by_cases h1 : t.val < 4
    · by_cases h2 : t.val % 20 = 4
      · exfalso; omega
      · by_cases h3 : 4 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          by_cases hz : t.val = 0
          · rw [PhiS_castSucc m c t, PhiS_zero m c _ _ hz, PhiA0_eq]
            rw [outsAt0_A m c t h0 h1 h2 h3]
            unfold sout0_A_0 sout0_A_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t)).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexact HS0
            isplitl [HS1]; · iexact HS1
            isplitl [HS2]; · iexact HS2
            isplitl [HS3]; · iexact HS3
            iintro ⟨H0, H1, H2, H3, H4, H5, H6, H7, ⟨%es0, HS0⟩, HS1, ⟨%es2, HS2⟩, HS3⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _)
                isplitl [HS1]
                · iexact HS1
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _ _ _ _)
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
          · exfalso; have hN : t.val < 20 := lt_of_lt_of_eq t.isLt (show cfg0.N = 20 from N_0); omega
    · exfalso; omega
  · by_cases h1 : t.val < 4
    · by_cases h2 : t.val % 20 = 4
      · exfalso; omega
      · by_cases h3 : 4 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          by_cases hz : t.val = 0
          · exfalso; have hN : t.val < 20 := lt_of_lt_of_eq t.isLt (show cfg0.N = 20 from N_0); omega
          · rw [PhiS_castSucc m c t, PhiS_pos m c _ _ hz]
            rw [outsAt0_B m c t h0 h1 h2 h3]
            unfold sout0_B_0 sout0_B_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) _ _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexact HS0
            isplitl [HS1]; · iexact HS1
            isplitl [HS2]; · iexact HS2
            isplitl [HS3]; · iexact HS3
            iintro ⟨H0, H1, H2, H3, H4, H5, H6, H7, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · unfold owns; iexists _; isplitr
                  swap; · iexact HS2
                  ipureintro; rfl
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
    · by_cases h2 : t.val % 20 = 4
      · by_cases h3 : 4 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          by_cases hz : t.val = 0
          · exfalso; have hN : t.val < 20 := lt_of_lt_of_eq t.isLt (show cfg0.N = 20 from N_0); omega
          · rw [PhiS_castSucc m c t, PhiS_pos m c _ _ hz]
            rw [outsAt0_C m c t h0 h1 h2 h3]
            unfold sout0_C_0 sout0_C_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) _ _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexact HS0
            isplitl [HS1]; · iexact HS1
            isplitl [HS2]; · iexact HS2
            isplitl [HS3]; · iexact HS3
            iintro ⟨H0, H1, H2, H3, H4, H5, H6, H7, ⟨%es0, HS0⟩, HS1, HS2, HS3⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _ _ _)
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
        · exfalso; omega
      · by_cases h3 : 4 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          by_cases hz : t.val = 0
          · exfalso; have hN : t.val < 20 := lt_of_lt_of_eq t.isLt (show cfg0.N = 20 from N_0); omega
          · rw [PhiS_castSucc m c t, PhiS_pos m c _ _ hz]
            rw [outsAt0_D m c t h0 h1 h2 h3]
            unfold sout0_D_0 sout0_D_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) _ _).2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexists _; iexact H7
            isplitl [HS0]; · iexact HS0
            isplitl [HS1]; · iexact HS1
            isplitl [HS2]; · iexact HS2
            isplitl [HS3]; · iexact HS3
            iintro ⟨H0, H1, H2, H3, H4, H5, H6, H7, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 20 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.IdealRun.Setup.lean ====
/- What the runs of the body at its four kinds of grid point share: the branch conditions in closed form, the staging
   and scratch memrefs, the region's invariant opened, and the frame from a run that forgets the output window. -/
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 5 rfl).trans ((hA c 5).trans (V_main_arg3 m c)),
      (Pipeline.RDat.FramePost.arr_in h c 2 rfl).trans ((hA c 2).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 3 rfl).trans ((hA c 3).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, e0]
    word_cmp
   : ∀ t : Fin grid0.N, cond0_0 (grid0.coords t) ↔ t.val % 20 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 4#32)) 0#32) = 1#1
/-- It holds at point 4 only — by arithmetic of the point. -/
theorem hcond0_2 : ∀ t : Fin cfg0.N, cond0_2 (grid0.coords t) ↔ t.val % 20 = 4 :=
  (fun t => by
    have ht : t.val < 20 := Nat.lt_of_lt_of_eq t.isLt N_0
    have e0 : (grid0.coords t 0).val = t.val / 1 % 20 := Pipeline.Grid.coords_val t 0 (by decide) rfl
    simp only [cond0_2, e0]
    word_cmp
   : ∀ t : Fin grid0.N, cond0_2 (grid0.coords t) ↔ t.val % 20 = 4)

/-- The condition of the body's `scf.if` 3 (`k0_h4`), from the grid coordinates (the skeleton's scalar
    chain substituted). -/
abbrev cond0_3 (i : grid0.Coords) : Prop := k0_cond4 i = 1#1
/-- It holds at the points from point 4 on — decided over the grid. -/
theorem hcond0_3 : ∀ t : Fin cfg0.N, cond0_3 (grid0.coords t) ↔ 4 ≤ t.val :=
  (by decide +kernel : ∀ t : Fin grid0.N, cond0_3 (grid0.coords t) ↔ 4 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x512 .f32 := win0_0.stage (cfg0.slots t 0)
/-- The staging buffer of window 0 is a whole buffer. -/
abbrev hs0_0 (t : Fin cfg0.N) : (ms0_0 t).IsWhole := hstage0_0 ((cfg0.slots t 0).cast nbuf0_0)
/-- The staging buffer window 1 uses at a point. -/
abbrev ms0_1 (t : Fin cfg0.N) : Memref sig .tc .vmem S4096x256 .f32 := win0_1.stage (cfg0.slots t 1)
/-- The staging buffer of window 1 is a whole buffer. -/
abbrev hs0_1 (t : Fin cfg0.N) : (ms0_1 t).IsWhole := hstage0_1 ((cfg0.slots t 1).cast nbuf0_1)
/-- The staging buffer window 2 uses at a point. -/
abbrev ms0_2 (t : Fin cfg0.N) : Memref sig .tc .vmem S256x512 .f32 := win0_2.stage (cfg0.slots t 2)
/-- The staging buffer of window 2 is a whole buffer. -/
abbrev hs0_2 (t : Fin cfg0.N) : (ms0_2 t).IsWhole := hstage0_2 ((cfg0.slots t 2).cast nbuf0_2)
/-- The staging buffer window 3 uses at a point. -/
abbrev ms0_3 (t : Fin cfg0.N) : Memref sig .tc .vmem S256x256 .f32 := win0_3.stage (cfg0.slots t 3)
/-- The staging buffer of window 3 is a whole buffer. -/
abbrev hs0_3 (t : Fin cfg0.N) : (ms0_3 t).IsWhole := hstage0_3 ((cfg0.slots t 3).cast nbuf0_3)
/-- The staging buffer window 4 uses at a point. -/
abbrev ms0_4 (t : Fin cfg0.N) : Memref sig .tc .vmem S1x3x2048 .f32 := win0_4.stage (cfg0.slots t 4)
/-- The staging buffer of window 4 is a whole buffer. -/
abbrev hs0_4 (t : Fin cfg0.N) : (ms0_4 t).IsWhole := hstage0_4 ((cfg0.slots t 4).cast nbuf0_4)
/-- The staging buffer window 5 uses at a point. -/
abbrev ms0_5 (t : Fin cfg0.N) : Memref sig .tc .vmem S1x1024x3 .f32 := win0_5.stage (cfg0.slots t 5)
/-- The staging buffer of window 5 is a whole buffer. -/
abbrev hs0_5 (t : Fin cfg0.N) : (ms0_5 t).IsWhole := hstage0_5 ((cfg0.slots t 5).cast nbuf0_5)
/-- The staging buffer window 6 uses at a point. -/
abbrev ms0_6 (t : Fin cfg0.N) : Memref sig .tc .vmem S4x256 .f32 := win0_6.stage (cfg0.slots t 6)
/-- The staging buffer of window 6 is a whole buffer. -/
abbrev hs0_6 (t : Fin cfg0.N) : (ms0_6 t).IsWhole := hstage0_6 ((cfg0.slots t 6).cast nbuf0_6)
/-- The staging buffer window 7 uses at a point. -/
abbrev ms0_7 (t : Fin cfg0.N) : Memref sig .tc .vmem S1x1024x256 .f32 := win0_7.stage (cfg0.slots t 7)
/-- The staging buffer of window 7 is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4096x256 .f32 := Memref.whole cc0_scratch0
/-- Scratch buffer 1, whole. -/
abbrev scM0_1 : Memref sig .tc .vmem S16384x256 .f32 := Memref.whole cc0_scratch1
/-- Scratch buffer 2, whole. -/
abbrev scM0_2 : Memref sig .tc .vmem S4x256 .f32 := Memref.whole cc0_scratch2
/-- Scratch buffer 3, whole. -/
abbrev scM0_3 : Memref sig .tc .vmem S4x256 .f32 := Memref.whole cc0_scratch3
/-- The scratch `arg9` the kernel carries between points, as a view: what it holds is stated through it. -/
abbrev VS0_0 : View sig .tc .vmem S4096x256 .f32 := scM0_0.view
/-- The scratch `arg11` the kernel carries between points, as a view: what it holds is stated through it. -/
abbrev VS0_2 : View sig .tc .vmem S4x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## Rows of the small scratch buffers -/

/-- The rectangle of row 0 of a four-row buffer. -/
abbrev R0 : Rect S4x256 := Rect.unit (s := S4x256) ![0, 0] S1x256.size inb_S4x256_S1x256_0_0
/-- The rectangle of row 1. -/
abbrev R1 : Rect S4x256 := Rect.unit (s := S4x256) ![1, 0] S1x256.size inb_S4x256_S1x256_1_0
/-- The rectangle of row 2. -/
abbrev R2 : Rect S4x256 := Rect.unit (s := S4x256) ![2, 0] S1x256.size inb_S4x256_S1x256_2_0
/-- The rectangle of row 3. -/
abbrev R3 : Rect S4x256 := Rect.unit (s := S4x256) ![3, 0] S1x256.size inb_S4x256_S1x256_3_0

/-- Row 0 of a four-row buffer. -/
def row0 (d : Vec F S4x256 .f32) : Vec F S1x256 .f32 := View.ld d R0
/-- Row 1 of a four-row buffer. -/
def row1 (d : Vec F S4x256 .f32) : Vec F S1x256 .f32 := View.ld d R1
/-- Row 2 of a four-row buffer. -/
def row2 (d : Vec F S4x256 .f32) : Vec F S1x256 .f32 := View.ld d R2
/-- Row 3 of a four-row buffer. -/
def row3 (d : Vec F S4x256 .f32) : Vec F S1x256 .f32 := View.ld d R3
/-- A row of zeros. -/
def zrow : Vec F S1x256 .f32 := fun _ => FloatOps.ofBits .f32 0x00000000#32

section Rows

variable (v : View sig .tc .vmem S4x256 .f32) (f : v.ty.Contents (Elt F)) (L : List (View.Piece (Elt F) S4x256 .f32))

/-- A row just stored reads as the payload stored. -/
theorem row_hit {r : ℕ} (inb inb' : ∀ a, (![r, 0] : Fin 2 → ℕ) a + S1x256.size a ≤ S4x256.size a) (w : Vec F S1x256 .f32) :
    v.readAt (Elt F) (Rect.unit (s := S4x256) ![r, 0] S1x256.size inb).toLoadRect (v.writes (Elt F) f (⟨Rect.unit (s := S4x256) ![r, 0] S1x256.size inb', w⟩ :: L)) = w := by
  rw [View.readAt_unit v _ inb rfl inb, View.read_writes_cons_put v f inb' w L rfl]
  exact VecWindow.window_put_same _ _ _ inb _

/-- A row reads the same before and after a store of rows apart from it. -/
theorem row_miss {r o : ℕ} {size : Fin 2 → ℕ} (h : r + 1 ≤ o ∨ o + size 0 ≤ r) (inb : ∀ a, (![r, 0] : Fin 2 → ℕ) a + S1x256.size a ≤ S4x256.size a)
    (inb' : ∀ a, (![o, 0] : Fin 2 → ℕ) a + size a ≤ S4x256.size a) (w : (Rect.unit (s := S4x256) ![o, 0] size inb').shape.Idx → Elt F .f32) :
    v.readAt (Elt F) (Rect.unit (s := S4x256) ![r, 0] S1x256.size inb).toLoadRect (v.writes (Elt F) f (⟨Rect.unit (s := S4x256) ![o, 0] size inb', w⟩ :: L))
      = v.readAt (Elt F) (Rect.unit (s := S4x256) ![r, 0] S1x256.size inb).toLoadRect (v.writes (Elt F) f L) := by
  rw [View.readAt_unit v _ inb rfl inb, View.readAt_unit v _ inb rfl inb, View.read_writes_cons_put v f inb' w L rfl]
  exact VecWindow.window_put_of_disjoint _ _ _ _ _ inb _ 0 h

/-- A row inside two rows just filled with zeros reads as zeros. -/
theorem row_zero {r : ℕ} (h2 : 2 ≤ r) (h3 : r ≤ 3) (inb : ∀ a, (![r, 0] : Fin 2 → ℕ) a + S1x256.size a ≤ S4x256.size a)
    (inb' : ∀ a, (![2, 0] : Fin 2 → ℕ) a + S2x256.size a ≤ S4x256.size a) :
    v.readAt (Elt F) (Rect.unit (s := S4x256) ![r, 0] S1x256.size inb).toLoadRect (v.writes (Elt F) f (⟨Rect.unit (s := S4x256) ![2, 0] S2x256.size inb', k0_pay5 (F := F)⟩ :: L)) = zrow := by
  rw [View.readAt_unit v _ inb rfl inb, View.read_writes_cons_put v f inb' _ L rfl,
    VecWindow.window_put_of_inside _ _ _ _ _ inb _ (fun a => by
      fin_cases a
      · exact ⟨h2, by show r + 1 ≤ 2 + 2; omega⟩
      · exact ⟨le_refl _, le_refl _⟩)]
  rfl

end Rows

end Cert.KernelIdeal.Gen

end
-- ==== Proof.IdealRun.RunA.lean ====
/- The run of the kernel's body at the grid points of case A, with what it leaves in every buffer. -/
module

public import proofs.«01_k».proof.Proof.IdealRun.Setup

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first grid point the up projection is left in the activations, its column sums and sums of squares in the first two
    rows of statistics, and the first chunk of the lateral projection with its own sums beside them. -/
theorem run_A (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (x7 : Vec F S1x1024x256 .f32) (d9 : Vec F S4096x256 .f32) (d10 : Vec F S16384x256 .f32) (d11 : Vec F S4x256 .f32) (d12 : Vec F S4x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d9 ∗ owns (c : Thread nD τ) arg10 fullShare d10 ∗ owns (c : Thread nD τ) arg11 fullShare d11 ∗ owns (c : Thread nD τ) arg12 fullShare d12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k0_pay2 x0 x2)
            ∗ owns (c : Thread nD τ) arg10 fullShare (VecWindow.put d10 (k0_off1 i) S4096x256.size (k0_pay7 x1 x3))
            ∗ (∃ e11, ⌜row0 e11 = k0_pay3 x0 x2 ∧ row1 e11 = k0_pay4 x0 x2 ∧ row2 e11 = k0_pay8 x1 x3 zrow ∧ row3 e11 = k0_pay9 x1 x3 zrow⌝ ∗ owns (c : Thread nD τ) arg11 fullShare e11)
            ∗ owns (c : Thread nD τ) arg12 fullShare d12) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg8.eq_unread hf7; obtain rfl := harg9.eq_unread hfs0; obtain rfl := harg10.eq_unread hfs1; obtain rfl := harg11.eq_unread hfs2; obtain rfl := harg12.eq_unread hfs3
  have hv0 : arg1.view.readAt (Elt F) (Rect.unit (s := S4096x512) ![0, 0] S4096x512.size inb_S4096x512_S4096x512_0_0).toLoadRect (harg1.unread x0) = x0 := (View.readAt_full _ _ _).trans hf0
  have hv1 : arg2.view.readAt (Elt F) (Rect.unit (s := S4096x256) ![0, 0] S4096x256.size inb_S4096x256_S4096x256_0_0).toLoadRect (harg2.unread x1) = x1 := (View.readAt_full _ _ _).trans hf1
  have hv2 : arg3.view.readAt (Elt F) (Rect.unit (s := S256x512) ![0, 0] S256x512.size inb_S256x512_S256x512_0_0).toLoadRect (harg3.unread x2) = x2 := (View.readAt_full _ _ _).trans hf2
  have hv3 : arg4.view.readAt (Elt F) (Rect.unit (s := S256x256) ![0, 0] S256x256.size inb_S256x256_S256x256_0_0).toLoadRect (harg4.unread x3) = x3 := (View.readAt_full _ _ _).trans hf3
  sl_exec (disch := first | sl_exact hc0 | sl_exact hc1 | sl_exact hc2 | sl_exact hc3)
  sl_step
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr; swap; · iexact HS0
    ipureintro
    exact View.read_writes_full _ _ _ _ _
  isplitl [HS1]
  · iexists _; isplitr; swap; · iexact HS1
    ipureintro
    rw [View.read_writes_cons_put _ _ _ _ _ rfl, View.writes_nil, harg10.read_unread]
  isplitl [HS2]
  · iexists _; isplitr; swap
    · iexists _; isplitr; swap; · iexact HS2
      ipureintro; rfl
    ipureintro
    refine ⟨?_, ?_, ?_, ?_⟩
    · exact (row_miss _ _ _ (Or.inl (by decide)) _ _ _).trans ((row_miss _ _ _ (Or.inl (by decide)) _ _ _).trans
        ((row_miss _ _ _ (Or.inl (by decide)) _ _ _).trans ((row_miss _ _ _ (Or.inl (by decide)) _ _ _).trans (row_hit _ _ _ _ _ _))))
    · exact (row_miss _ _ _ (Or.inl (by decide)) _ _ _).trans ((row_miss _ _ _ (Or.inl (by decide)) _ _ _).trans
        ((row_miss _ _ _ (Or.inl (by decide)) _ _ _).trans (row_hit _ _ _ _ _ _)))
    · exact ((row_miss _ _ _ (Or.inl (by decide)) _ _ _).trans (row_hit _ _ _ _ _ _)).trans
        (congrArg _ (row_zero _ _ _ (by decide) (by decide) _ _))
    · exact (row_hit _ _ _ _ _ _).trans (congrArg _ ((row_miss _ _ _ (Or.inr (by decide)) _ _ _).trans
        (row_zero _ _ _ (by decide) (by decide) _ _)))
  iexists _; isplitr; · ipureintro; exact harg12.read_unread _
  iexact HS3

end Cert.KernelIdeal.Gen

end
-- ==== Proof.IdealRun.RunB.lean ====
/- The run of the kernel's body at the grid points of case B, with what it leaves in every buffer. -/
module

public import proofs.«01_k».proof.Proof.IdealRun.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the next grid points a chunk of the lateral projection is stored and its column sums are added to the statistics. -/
theorem run_B (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : cond0_1 i) (hc2 : ¬cond0_2 i) (hc3 : ¬cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (x7 : Vec F S1x1024x256 .f32) (d9 : Vec F S4096x256 .f32) (d10 : Vec F S16384x256 .f32) (d11 : Vec F S4x256 .f32) (d12 : Vec F S4x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d9 ∗ owns (c : Thread nD τ) arg10 fullShare d10 ∗ owns (c : Thread nD τ) arg11 fullShare d11 ∗ owns (c : Thread nD τ) arg12 fullShare d12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare d9
            ∗ owns (c : Thread nD τ) arg10 fullShare (VecWindow.put d10 (k0_off1 i) S4096x256.size (k0_pay7 x1 x3))
            ∗ (∃ e11, ⌜row0 e11 = row0 d11 ∧ row1 e11 = row1 d11 ∧ row2 e11 = k0_pay8 x1 x3 (row2 d11) ∧ row3 e11 = k0_pay9 x1 x3 (row3 d11)⌝ ∗ owns (c : Thread nD τ) arg11 fullShare e11)
            ∗ owns (c : Thread nD τ) arg12 fullShare d12) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg8.eq_unread hf7; obtain rfl := harg9.eq_unread hfs0; obtain rfl := harg10.eq_unread hfs1; obtain rfl := harg11.eq_unread hfs2; obtain rfl := harg12.eq_unread hfs3
  have hv1 : arg2.view.readAt (Elt F) (Rect.unit (s := S4096x256) ![0, 0] S4096x256.size inb_S4096x256_S4096x256_0_0).toLoadRect (harg2.unread x1) = x1 := (View.readAt_full _ _ _).trans hf1
  have hv3 : arg4.view.readAt (Elt F) (Rect.unit (s := S256x256) ![0, 0] S256x256.size inb_S256x256_S256x256_0_0).toLoadRect (harg4.unread x3) = x3 := (View.readAt_full _ _ _).trans hf3
  have hr11_2 : arg11.view.readAt (Elt F) R2.toLoadRect (harg11.unread d11) = row2 d11 := congrArg (fun d => View.ld d R2) hfs2
  have hr11_3 : arg11.view.readAt (Elt F) R3.toLoadRect (harg11.unread d11) = row3 d11 := congrArg (fun d => View.ld d R3) hfs2
  sl_exec (disch := first | sl_exact hc0 | sl_exact hc1 | sl_exact hc2 | sl_exact hc3)
  sl_step
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr; · ipureintro; exact harg9.read_unread _
    iexact HS0
  isplitl [HS1]
  · iexists _; isplitr; swap; · iexact HS1
    ipureintro
    rw [View.read_writes_cons_put _ _ _ _ _ rfl, View.writes_nil, harg10.read_unread]
  isplitl [HS2]
  · iexists _; isplitr; swap
    · iexists _; isplitr; swap; · iexact HS2
      ipureintro; rfl
    ipureintro
    refine ⟨?_, ?_, ?_, ?_⟩
    · exact (row_miss _ _ _ (Or.inl (by decide)) _ _ _).trans ((row_miss _ _ _ (Or.inl (by decide)) _ _ _).trans
        (congrArg (fun d => View.ld d R0) hfs2))
    · exact (row_miss _ _ _ (Or.inl (by decide)) _ _ _).trans ((row_miss _ _ _ (Or.inl (by decide)) _ _ _).trans
        (congrArg (fun d => View.ld d R1) hfs2))
    · exact (row_miss _ _ _ (Or.inl (by decide)) _ _ _).trans (row_hit _ _ _ _ _ _)
    · exact row_hit _ _ _ _ _ _
  iexists _; isplitr; · ipureintro; exact harg12.read_unread _
  iexact HS3

end Cert.KernelIdeal.Gen

end
-- ==== Proof.IdealRun.RunC.lean ====
/- The run of the kernel's body at the grid points of case C, with what it leaves in every buffer. -/
module

public import proofs.«01_k».proof.Proof.IdealRun.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the one point where the activations are normalised the rows read start at row zero. -/
theorem off2_of_cond0_2 : ∀ i : grid0.Coords, cond0_2 i → k0_off2 i = ![0, 0] := by decide +kernel

/-- The lateral branch's scale, from the scale row of the parameters and the statistics. -/
def arow (x6 d11 : Vec F S4x256 .f32) : Vec F S1x256 .f32 := k0_pay10 (k0_pay18 (row2 d11) (row3 d11) (row2 x6))
/-- The lateral branch's shift. -/
def brow (x6 d11 : Vec F S4x256 .f32) : Vec F S1x256 .f32 := k0_pay11 (k0_pay17 (row2 d11)) (k0_pay18 (row2 d11) (row3 d11) (row2 x6)) (row3 x6)
/-- The activations normalised and rectified. -/
def hact (x6 : Vec F S4x256 .f32) (d9 : Vec F S4096x256 .f32) (d11 : Vec F S4x256 .f32) : Vec F S4096x256 .f32 :=
  k0_pay12 (k0_pay15 (row0 d11) (row1 d11) (row0 x6)) (k0_pay16 (row0 d11) (row1 d11) (row0 x6) (row1 x6)) d9

/-- The block of the result stored at a point: the weights selected from the distances, on the rows of the activations, and the
    lateral branch's rows scaled, shifted and rectified. -/
def yblk (i : grid0.Coords) (hc3 : cond0_3 i) (x4 : Vec F S1x3x2048 .f32) (x5 : Vec F S1x1024x3 .f32) (h : Vec F S4096x256 .f32) (z : Vec F S16384x256 .f32)
    (a b : Vec F S1x256 .f32) : Vec F S1x1024x256 .f32 :=
  k0_pay13 (k0_pay22 (k0_pay19 x5 x4) (k0_pay20 x5 x4) (k0_pay21 x5 x4))
    (View.ld h (Rect.unit (s := S4096x256) (k0_off2 i) S2048x256.size (k0_off2_inb i hc3)))
    (View.ld z (Rect.unit (s := S16384x256) (k0_off3 i) S1024x256.size (k0_off3_inb i hc3))) a b

set_option maxHeartbeats 1000000 in
/-- At the point where the statistics are complete the scales and shifts are formed from them, the activations are normalised
    and rectified, and the first block of the result is stored. -/
theorem run_C (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (x7 : Vec F S1x1024x256 .f32) (d9 : Vec F S4096x256 .f32) (d10 : Vec F S16384x256 .f32) (d11 : Vec F S4x256 .f32) (d12 : Vec F S4x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d9 ∗ owns (c : Thread nD τ) arg10 fullShare d10 ∗ owns (c : Thread nD τ) arg11 fullShare d11 ∗ owns (c : Thread nD τ) arg12 fullShare d12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (yblk i hc3 x4 x5 (hact x6 d9 d11) d10 (arow x6 d11) (brow x6 d11))
            ∗ owns (c : Thread nD τ) arg9 fullShare (hact x6 d9 d11)
            ∗ owns (c : Thread nD τ) arg10 fullShare d10
            ∗ owns (c : Thread nD τ) arg11 fullShare d11
            ∗ (∃ e12, ⌜row2 e12 = arow x6 d11 ∧ row3 e12 = brow x6 d11⌝ ∗ owns (c : Thread nD τ) arg12 fullShare e12)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg8.eq_unread hf7; obtain rfl := harg9.eq_unread hfs0; obtain rfl := harg10.eq_unread hfs1; obtain rfl := harg11.eq_unread hfs2; obtain rfl := harg12.eq_unread hfs3
  have hv4 : arg5.view.readAt (Elt F) (Rect.unit (s := S1x3x2048) ![0, 0, 0] S1x3x2048.size inb_S1x3x2048_S1x3x2048_0_0_0).toLoadRect (harg5.unread x4) = x4 := (View.readAt_full _ _ _).trans hf4
  have hv5 : arg6.view.readAt (Elt F) (Rect.unit (s := S1x1024x3) ![0, 0, 0] S1x1024x3.size inb_S1x1024x3_S1x1024x3_0_0_0).toLoadRect (harg6.unread x5) = x5 := (View.readAt_full _ _ _).trans hf5
  have hr7_0 : arg7.view.readAt (Elt F) R0.toLoadRect (harg7.unread x6) = row0 x6 := congrArg (fun d => View.ld d R0) hf6
  have hr7_1 : arg7.view.readAt (Elt F) R1.toLoadRect (harg7.unread x6) = row1 x6 := congrArg (fun d => View.ld d R1) hf6
  have hr7_2 : arg7.view.readAt (Elt F) R2.toLoadRect (harg7.unread x6) = row2 x6 := congrArg (fun d => View.ld d R2) hf6
  have hr7_3 : arg7.view.readAt (Elt F) R3.toLoadRect (harg7.unread x6) = row3 x6 := congrArg (fun d => View.ld d R3) hf6
  have hr11_0 : arg11.view.readAt (Elt F) R0.toLoadRect (harg11.unread d11) = row0 d11 := congrArg (fun d => View.ld d R0) hfs2
  have hr11_1 : arg11.view.readAt (Elt F) R1.toLoadRect (harg11.unread d11) = row1 d11 := congrArg (fun d => View.ld d R1) hfs2
  have hr11_2 : arg11.view.readAt (Elt F) R2.toLoadRect (harg11.unread d11) = row2 d11 := congrArg (fun d => View.ld d R2) hfs2
  have hr11_3 : arg11.view.readAt (Elt F) R3.toLoadRect (harg11.unread d11) = row3 d11 := congrArg (fun d => View.ld d R3) hfs2
  have hv9 : arg9.view.readAt (Elt F) (Rect.unit (s := S4096x256) ![0, 0] S4096x256.size inb_S4096x256_S4096x256_0_0).toLoadRect (harg9.unread d9) = d9 := (View.readAt_full _ _ _).trans hfs0
  have hz : arg10.view.readAt (Elt F) (Rect.unit (s := S16384x256) (k0_off3 i) S1024x256.size (k0_off3_inb i hc3)).toLoadRect (harg10.unread d10) = View.ld d10 (Rect.unit (s := S16384x256) (k0_off3 i) S1024x256.size (k0_off3_inb i hc3)) := congrArg (fun d => View.ld d (Rect.unit (s := S16384x256) (k0_off3 i) S1024x256.size (k0_off3_inb i hc3))) hfs1
  letI : ClosedOff (k0_off2 i) := ⟨![0, 0], off2_of_cond0_2 i hc2⟩
  sl_exec (disch := first | sl_exact hc0 | sl_exact hc1 | sl_exact hc2 | sl_exact hc3)
  sl_step
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full _ _ _ _ _).trans ?_
    refine congr (congr (congr (congrArg (k0_pay13 _) ?_) (Eq.refl _)) ?_) ?_
    · exact congrArg (fun d => View.ld d (Rect.unit (s := S4096x256) (k0_off2 i) S2048x256.size (k0_off2_inb i hc3))) (View.read_writes_full _ _ _ _ _)
    · exact (row_miss _ _ _ (Or.inl (by decide)) _ _ _).trans (row_hit _ _ _ _ _ _)
    · exact row_hit _ _ _ _ _ _
  isplitl [HS0]
  · iexists _; isplitr; swap; · iexact HS0
    ipureintro
    exact View.read_writes_full _ _ _ _ _
  isplitl [HS1]
  · iexists _; isplitr; · ipureintro; exact harg10.read_unread _
    iexact HS1
  isplitl [HS2]
  · iexists _; isplitr; · ipureintro; exact harg11.read_unread _
    iexact HS2
  iexists _; isplitr; swap
  · iexists _; isplitr; swap; · iexact HS3
    ipureintro; rfl
  ipureintro
  exact ⟨(row_miss _ _ _ (Or.inl (by decide)) _ _ _).trans (row_hit _ _ _ _ _ _), row_hit _ _ _ _ _ _⟩

end Cert.KernelIdeal.Gen

end
-- ==== Proof.IdealRun.RunD.lean ====
/- The run of the kernel's body at the grid points of case D, with what it leaves in every buffer. -/
module

public import proofs.«01_k».proof.Proof.IdealRun.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the later points a block of the result is stored, from the activations, the lateral projection and the scales as they are. -/
theorem run_D (c : Dev nD) (i : grid0.Coords) (arg1 : Memref sig .tc .vmem S4096x512 .f32) (harg1 : arg1.IsWhole) (arg2 : Memref sig .tc .vmem S4096x256 .f32) (harg2 : arg2.IsWhole) (arg3 : Memref sig .tc .vmem S256x512 .f32) (harg3 : arg3.IsWhole) (arg4 : Memref sig .tc .vmem S256x256 .f32) (harg4 : arg4.IsWhole) (arg5 : Memref sig .tc .vmem S1x3x2048 .f32) (harg5 : arg5.IsWhole) (arg6 : Memref sig .tc .vmem S1x1024x3 .f32) (harg6 : arg6.IsWhole) (arg7 : Memref sig .tc .vmem S4x256 .f32) (harg7 : arg7.IsWhole) (arg8 : Memref sig .tc .vmem S1x1024x256 .f32) (harg8 : arg8.IsWhole) (arg9 : Memref sig .tc .vmem S4096x256 .f32) (harg9 : arg9.IsWhole) (arg10 : Memref sig .tc .vmem S16384x256 .f32) (harg10 : arg10.IsWhole) (arg11 : Memref sig .tc .vmem S4x256 .f32) (harg11 : arg11.IsWhole) (arg12 : Memref sig .tc .vmem S4x256 .f32) (harg12 : arg12.IsWhole) (hc0 : ¬cond0_0 i) (hc1 : ¬cond0_1 i) (hc2 : ¬cond0_2 i) (hc3 : cond0_3 i)
    (x0 : Vec F S4096x512 .f32) (x1 : Vec F S4096x256 .f32) (x2 : Vec F S256x512 .f32) (x3 : Vec F S256x256 .f32) (x4 : Vec F S1x3x2048 .f32) (x5 : Vec F S1x1024x3 .f32) (x6 : Vec F S4x256 .f32) (x7 : Vec F S1x1024x256 .f32) (d9 : Vec F S4096x256 .f32) (d10 : Vec F S16384x256 .f32) (d11 : Vec F S4x256 .f32) (d12 : Vec F S4x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d9 ∗ owns (c : Thread nD τ) arg10 fullShare d10 ∗ owns (c : Thread nD τ) arg11 fullShare d11 ∗ owns (c : Thread nD τ) arg12 fullShare d12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (yblk i hc3 x4 x5 d9 d10 (row2 d12) (row3 d12))
            ∗ owns (c : Thread nD τ) arg9 fullShare d9
            ∗ owns (c : Thread nD τ) arg10 fullShare d10
            ∗ owns (c : Thread nD τ) arg11 fullShare d11
            ∗ owns (c : Thread nD τ) arg12 fullShare d12) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg8.eq_unread hf7; obtain rfl := harg9.eq_unread hfs0; obtain rfl := harg10.eq_unread hfs1; obtain rfl := harg11.eq_unread hfs2; obtain rfl := harg12.eq_unread hfs3
  have hv4 : arg5.view.readAt (Elt F) (Rect.unit (s := S1x3x2048) ![0, 0, 0] S1x3x2048.size inb_S1x3x2048_S1x3x2048_0_0_0).toLoadRect (harg5.unread x4) = x4 := (View.readAt_full _ _ _).trans hf4
  have hv5 : arg6.view.readAt (Elt F) (Rect.unit (s := S1x1024x3) ![0, 0, 0] S1x1024x3.size inb_S1x1024x3_S1x1024x3_0_0_0).toLoadRect (harg6.unread x5) = x5 := (View.readAt_full _ _ _).trans hf5
  have hr12_2 : arg12.view.readAt (Elt F) R2.toLoadRect (harg12.unread d12) = row2 d12 := congrArg (fun d => View.ld d R2) hfs3
  have hr12_3 : arg12.view.readAt (Elt F) R3.toLoadRect (harg12.unread d12) = row3 d12 := congrArg (fun d => View.ld d R3) hfs3
  have hh : arg9.view.readAt (Elt F) (Rect.unit (s := S4096x256) (k0_off2 i) S2048x256.size (k0_off2_inb i hc3)).toLoadRect (harg9.unread d9) = View.ld d9 (Rect.unit (s := S4096x256) (k0_off2 i) S2048x256.size (k0_off2_inb i hc3)) := congrArg (fun d => View.ld d (Rect.unit (s := S4096x256) (k0_off2 i) S2048x256.size (k0_off2_inb i hc3))) hfs0
  have hz : arg10.view.readAt (Elt F) (Rect.unit (s := S16384x256) (k0_off3 i) S1024x256.size (k0_off3_inb i hc3)).toLoadRect (harg10.unread d10) = View.ld d10 (Rect.unit (s := S16384x256) (k0_off3 i) S1024x256.size (k0_off3_inb i hc3)) := congrArg (fun d => View.ld d (Rect.unit (s := S16384x256) (k0_off3 i) S1024x256.size (k0_off3_inb i hc3))) hfs1
  sl_exec (disch := first | sl_exact hc0 | sl_exact hc1 | sl_exact hc2 | sl_exact hc3)
  sl_step
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    exact View.read_writes_full _ _ _ _ _
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  iexists _; isplitr; · ipureintro; exact harg12.read_unread _
  iexact HS3

end Cert.KernelIdeal.Gen

end
-- ==== Proof.IdealRun.Frame.lean ====
/- The idealized kernel's grid run: what the buffers it carries hold before every point, the body's obligation at every point, the launch,
   and the frame. -/
module

public import Idealize.ShloMosaic.Lib.Claim
public import proofs.«01_k».proof.Proof.IdealRun.RunD

@[expose] public section

-- membership in a rectangle of production extents: the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the carried buffers come to hold -/

/-- The grid point of a number. -/
def pt (k : ℕ) : Fin cfg0.N := ⟨k % 20, Nat.lt_of_lt_of_eq (Nat.mod_lt _ (by decide)) N_0.symm⟩

/-- The grid point of a point's own number is the point. -/
theorem pt_val (t : Fin cfg0.N) : pt t.val = t := Fin.ext (Nat.mod_eq_of_lt (Nat.lt_of_lt_of_eq t.isLt N_0))

/-- The up projection. -/
def ZUP (c : Dev nD) : Vec F S4096x256 .f32 := k0_pay2 (iblk m c 0 (pt 0)) (iblk m c 2 (pt 0))
/-- The up projection's column sums. -/
def SU1 (c : Dev nD) : Vec F S1x256 .f32 := k0_pay3 (iblk m c 0 (pt 0)) (iblk m c 2 (pt 0))
/-- The up projection's column sums of squares. -/
def SU2 (c : Dev nD) : Vec F S1x256 .f32 := k0_pay4 (iblk m c 0 (pt 0)) (iblk m c 2 (pt 0))

/-- One chunk of rows of the lateral projection. -/
def zchunk (c : Dev nD) (t : Fin cfg0.N) : Vec F S4096x256 .f32 := k0_pay7 (iblk m c 1 t) (iblk m c 3 t)

/-- The lateral projection, all its rows. -/
def ZL (c : Dev nD) : Vec F S16384x256 .f32 := fun y =>
  zchunk m c (pt ((y 0).val / 4096)) (fun a => match a with | ⟨0, _⟩ => ⟨(y 0).val % 4096, Nat.mod_lt _ (by decide)⟩ | ⟨1, _⟩ => y 1)

/-- The lateral projection's column sums over the chunks before a point. -/
def SL1 (c : Dev nD) : ℕ → Vec F S1x256 .f32
  | 0 => zrow
  | k + 1 => k0_pay8 (iblk m c 1 (pt k)) (iblk m c 3 (pt k)) (SL1 c k)
/-- The lateral projection's column sums of squares over the chunks before a point. -/
def SL2 (c : Dev nD) : ℕ → Vec F S1x256 .f32
  | 0 => zrow
  | k + 1 => k0_pay9 (iblk m c 1 (pt k)) (iblk m c 3 (pt k)) (SL2 c k)

/-- The parameters: scale and shift of the two branches, a row each. -/
def GB (c : Dev nD) : Vec F S4x256 .f32 := iblk m c 6 (pt 4)

/-- The activations, normalised and rectified. -/
def HN (c : Dev nD) : Vec F S4096x256 .f32 :=
  k0_pay12 (k0_pay15 (SU1 m c) (SU2 m c) (row0 (GB m c))) (k0_pay16 (SU1 m c) (SU2 m c) (row0 (GB m c)) (row1 (GB m c))) (ZUP m c)
/-- The lateral branch's scale. -/
def AN (c : Dev nD) : Vec F S1x256 .f32 := k0_pay10 (k0_pay18 (SL1 m c 4) (SL2 m c 4) (row2 (GB m c)))
/-- The lateral branch's shift. -/
def BN (c : Dev nD) : Vec F S1x256 .f32 :=
  k0_pay11 (k0_pay17 (SL1 m c 4)) (k0_pay18 (SL1 m c 4) (SL2 m c 4) (row2 (GB m c))) (row3 (GB m c))

/-- The block of the result that a point leaves (before the first stored block, anything). -/
def yOf (c : Dev nD) (t : Fin cfg0.N) : Vec F S1x1024x256 .f32 :=
  if h : 4 ≤ t.val then yblk (grid0.coords t) ((hcond0_3 t).mpr h) (iblk m c 4 t) (iblk m c 5 t) (HN m c) (ZL m c) (AN m c) (BN m c)
  else fun _ => FloatOps.ofBits .f32 0x00000000#32

/-- What the four carried buffers hold before point `n`. -/
structure Inv (c : Dev nD) (n : ℕ) (d9 : Vec F S4096x256 .f32) (d10 : Vec F S16384x256 .f32) (d11 d12 : Vec F S4x256 .f32) : Prop where
  /-- While the statistics are gathered, the activations are the up projection, and the statistics those gathered so far. -/
  early : 1 ≤ n → n ≤ 4 → d9 = ZUP m c ∧ row0 d11 = SU1 m c ∧ row1 d11 = SU2 m c ∧ row2 d11 = SL1 m c n ∧ row3 d11 = SL2 m c n
  /-- The rows of the lateral projection stored so far. -/
  rows : ∀ y, (y 0).val < 4096 * n → d10 y = ZL m c y
  /-- Afterwards the activations are normalised, and the lateral scale and shift stand. -/
  late : 5 ≤ n → d9 = HN m c ∧ row2 d12 = AN m c ∧ row3 d12 = BN m c

/-- Where a chunk of the lateral projection is stored. -/
theorem off1_eq : ∀ t : Fin cfg0.N, k0_off1 (grid0.coords t) = ![4096 * t.val, 0] :=
  (by decide +kernel : ∀ t : Fin grid0.N, k0_off1 (grid0.coords t) = ![4096 * t.val, 0])

/-- Storing a point's chunk extends the rows stored so far. -/
theorem rows_put (c : Dev nD) (t : Fin cfg0.N) (ht : t.val < 4) (d10 : Vec F S16384x256 .f32)
    (h : ∀ y, (y 0).val < 4096 * t.val → d10 y = ZL m c y) (y : S16384x256.Idx) (hy : (y 0).val < 4096 * (t.val + 1)) :
    VecWindow.put d10 (k0_off1 (grid0.coords t)) S4096x256.size (k0_pay7 (iblk m c 1 t) (iblk m c 3 t)) y = ZL m c y := by
  have e := off1_eq t

  by_cases h0 : 4096 * t.val ≤ (y 0).val
  · have hin : ∀ a, k0_off1 (grid0.coords t) a ≤ (y a).val ∧ (y a).val < k0_off1 (grid0.coords t) a + S4096x256.size a := by
      intro a
      rw [e]
      match a with
      | ⟨0, _⟩ => exact ⟨h0, by show (y 0).val < 4096 * t.val + 4096; omega⟩
      | ⟨1, _⟩ => exact ⟨Nat.zero_le _, by show (y 1).val < 0 + 256; have : (y 1).val < 256 := (y 1).isLt; omega⟩
    have ep : pt ((y 0).val / 4096) = t := by
      have : (y 0).val / 4096 = t.val := by omega
      rw [this]; exact pt_val t
    unfold VecWindow.put
    rw [dif_pos hin]
    unfold ZL
    rw [ep]
    refine congrArg (zchunk m c t) (funext fun a => ?_)
    match a with
    | ⟨0, _⟩ =>
      refine Fin.ext ?_
      show (y 0).val - k0_off1 (grid0.coords t) 0 = (y 0).val % 4096
      rw [e]; show (y 0).val - 4096 * t.val = _
      omega
    | ⟨1, _⟩ =>
      refine Fin.ext ?_
      show (y 1).val - k0_off1 (grid0.coords t) 1 = (y 1).val
      rw [e]; show (y 1).val - 0 = _
      omega
  · have hout : ¬ ∀ a, k0_off1 (grid0.coords t) a ≤ (y a).val ∧ (y a).val < k0_off1 (grid0.coords t) a + S4096x256.size a := by
      intro hall
      have := (hall 0).1
      rw [e] at this
      exact h0 this
    unfold VecWindow.put
    rw [dif_neg hout]
    exact h y (by omega)

/-- The first point establishes the buffers' contents. -/
theorem Inv.first (c : Dev nD) (t : Fin cfg0.N) (ht : t.val = 0) {d9 d10 d11 d12} (h : Inv m c t.val d9 d10 d11 d12) {e11 : Vec F S4x256 .f32}
    (h0 : row0 e11 = k0_pay3 (iblk m c 0 t) (iblk m c 2 t)) (h1 : row1 e11 = k0_pay4 (iblk m c 0 t) (iblk m c 2 t))
    (h2 : row2 e11 = k0_pay8 (iblk m c 1 t) (iblk m c 3 t) zrow) (h3 : row3 e11 = k0_pay9 (iblk m c 1 t) (iblk m c 3 t) zrow) :
    Inv m c (t.val + 1) (k0_pay2 (iblk m c 0 t) (iblk m c 2 t))
      (VecWindow.put d10 (k0_off1 (grid0.coords t)) S4096x256.size (k0_pay7 (iblk m c 1 t) (iblk m c 3 t))) e11 d12 := by
  have ep : t = pt 0 := by rw [← pt_val t, ht]
  refine ⟨fun _ _ => ?_, rows_put m c t (by omega) d10 h.rows, fun hn => by omega⟩
  rw [ht, h0, h1, h2, h3, ep]
  exact ⟨rfl, rfl, rfl, rfl, rfl⟩

/-- A later gathering point adds its chunk. -/
theorem Inv.gather (c : Dev nD) (t : Fin cfg0.N) (ht : t.val ≠ 0) (ht4 : t.val < 4) {d9 d10 d11 d12} (h : Inv m c t.val d9 d10 d11 d12) {e11 : Vec F S4x256 .f32}
    (h0 : row0 e11 = row0 d11) (h1 : row1 e11 = row1 d11)
    (h2 : row2 e11 = k0_pay8 (iblk m c 1 t) (iblk m c 3 t) (row2 d11)) (h3 : row3 e11 = k0_pay9 (iblk m c 1 t) (iblk m c 3 t) (row3 d11)) :
    Inv m c (t.val + 1) d9
      (VecWindow.put d10 (k0_off1 (grid0.coords t)) S4096x256.size (k0_pay7 (iblk m c 1 t) (iblk m c 3 t))) e11 d12 := by
  obtain ⟨k9, k0, k1, k2, k3⟩ := h.early (by omega) (by omega)
  refine ⟨fun _ _ => ⟨k9, h0.trans k0, h1.trans k1, ?_, ?_⟩, rows_put m c t (by omega) d10 h.rows, fun hn => by omega⟩
  · rw [h2, k2]; show _ = k0_pay8 (iblk m c 1 (pt t.val)) (iblk m c 3 (pt t.val)) (SL1 m c t.val); rw [pt_val]
  · rw [h3, k3]; show _ = k0_pay9 (iblk m c 1 (pt t.val)) (iblk m c 3 (pt t.val)) (SL2 m c t.val); rw [pt_val]

/-- The whole lateral projection is stored once its chunks are. -/
theorem Inv.whole {c : Dev nD} {n : ℕ} {d9 d10 d11 d12} (h : Inv m c n d9 d10 d11 d12) (hn : 4 ≤ n) : d10 = ZL m c :=
  funext fun y => h.rows y (by have : (y 0).val < 16384 := (y 0).isLt; omega)

/-- The point that normalises: the named values from the buffers as found. -/
theorem Inv.norm (c : Dev nD) (t : Fin cfg0.N) (ht : t.val = 4) {d9 d10 d11 d12} (h : Inv m c t.val d9 d10 d11 d12) :
    hact (iblk m c 6 t) d9 d11 = HN m c ∧ arow (iblk m c 6 t) d11 = AN m c ∧ brow (iblk m c 6 t) d11 = BN m c := by
  have ep : t = pt 4 := by rw [← pt_val t, ht]
  obtain ⟨k9, k0, k1, k2, k3⟩ := h.early (by omega) (by omega)
  rw [ht] at k2 k3
  unfold hact arow brow HN AN BN GB
  rw [k9, k0, k1, k2, k3, ep]
  exact ⟨rfl, rfl, rfl⟩

/-- After the point that normalises the buffers hold the named values. -/
theorem Inv.normed (c : Dev nD) (t : Fin cfg0.N) (ht : t.val = 4) {d9 d10 d11 d12} (h : Inv m c t.val d9 d10 d11 d12) {e12 : Vec F S4x256 .f32}
    (h2 : row2 e12 = arow (iblk m c 6 t) d11) (h3 : row3 e12 = brow (iblk m c 6 t) d11) :
    Inv m c (t.val + 1) (hact (iblk m c 6 t) d9 d11) d10 d11 e12 := by
  obtain ⟨n1, n2, n3⟩ := h.norm m c t ht
  exact ⟨fun _ hn => by omega, fun y _ => congrFun (h.whole m (by omega)) y, fun _ => ⟨n1, h2.trans n2, h3.trans n3⟩⟩

/-- The later points leave the carried buffers as they find them. -/
theorem Inv.stay (c : Dev nD) (t : Fin cfg0.N) (ht : 5 ≤ t.val) {d9 d10 d11 d12} (h : Inv m c t.val d9 d10 d11 d12) :
    Inv m c (t.val + 1) d9 d10 d11 d12 :=
  ⟨fun _ hn => by omega, fun y _ => congrFun (h.whole m (by omega)) y, fun _ => h.late ht⟩

/-- Before the first point nothing is asked. -/
theorem Inv.start (c : Dev nD) (d9 d10 d11 d12) : Inv m c 0 d9 d10 d11 d12 :=
  ⟨fun h => by omega, fun y hy => by omega, fun h => by omega⟩

/-! ## The proof data -/

/-- The invariant between points: the carried buffers at contents of which `Inv` holds, and the generator register at some state. -/
def PhiV (c : Dev nD) (n : ℕ) : sProp 𝕄 :=
  iprop(∃ d9 d10 d11 d12, ⌜Inv m c n d9 d10 d11 d12⌝ ∗ ((owns (c : Thread nD τ) scM0_0 fullShare d9 ∗ owns (c : Thread nD τ) scM0_1 fullShare d10
    ∗ owns (c : Thread nD τ) scM0_2 fullShare d11 ∗ owns (c : Thread nD τ) scM0_3 fullShare d12) ∗ (∃ r, prngReg c r)))

/-- The proof data of the one pipeline on core `c`: the arrays as the region finds them; after the body at point `t` each input's buffer at
    its block and the output's at the block of the result; the invariant `PhiV`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yOf m c t
  Φ t := PhiV m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- After a point the buffer of window 1 holds its block still. -/
theorem after0_1 (c : Dev nD) (t : Fin cfg0.N) : (dats m 0 c).after 1 t = iblk m c 1 t := by dsimp only [dats]
/-- After a point the buffer of window 2 holds its block still. -/
theorem after0_2 (c : Dev nD) (t : Fin cfg0.N) : (dats m 0 c).after 2 t = iblk m c 2 t := by dsimp only [dats]
/-- After a point the buffer of window 3 holds its block still. -/
theorem after0_3 (c : Dev nD) (t : Fin cfg0.N) : (dats m 0 c).after 3 t = iblk m c 3 t := by dsimp only [dats]
/-- After a point the buffer of window 4 holds its block still. -/
theorem after0_4 (c : Dev nD) (t : Fin cfg0.N) : (dats m 0 c).after 4 t = iblk m c 4 t := by dsimp only [dats]
/-- After a point the buffer of window 5 holds its block still. -/
theorem after0_5 (c : Dev nD) (t : Fin cfg0.N) : (dats m 0 c).after 5 t = iblk m c 5 t := by dsimp only [dats]
/-- After a point the buffer of window 6 holds its block still. -/
theorem after0_6 (c : Dev nD) (t : Fin cfg0.N) : (dats m 0 c).after 6 t = iblk m c 6 t := by dsimp only [dats]
/-- After a point the result's buffer holds the point's block of the result. -/
theorem after0_7 (c : Dev nD) (t : Fin cfg0.N) : (dats m 0 c).after 7 t = yOf m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
/-- Before a point the buffer of window 1 holds its block. -/
theorem before0_1 (c : Dev nD) (t : Fin cfg0.N) (d) : (dats m 0 c).before 1 t d = iblk m c 1 t :=
  before0_1_of m (dats m 0 c) (A_eq m c 1) (after0_1 m c) t d
/-- Before a point the buffer of window 2 holds its block. -/
theorem before0_2 (c : Dev nD) (t : Fin cfg0.N) (d) : (dats m 0 c).before 2 t d = iblk m c 2 t :=
  before0_2_of m (dats m 0 c) (A_eq m c 2) (after0_2 m c) t d
/-- Before a point the buffer of window 3 holds its block. -/
theorem before0_3 (c : Dev nD) (t : Fin cfg0.N) (d) : (dats m 0 c).before 3 t d = iblk m c 3 t :=
  before0_3_of m (dats m 0 c) (A_eq m c 3) (after0_3 m c) t d
/-- Before a point the buffer of window 4 holds its block. -/
theorem before0_4 (c : Dev nD) (t : Fin cfg0.N) (d) : (dats m 0 c).before 4 t d = iblk m c 4 t :=
  before0_4_of m (dats m 0 c) (A_eq m c 4) (after0_4 m c) t d
/-- Before a point the buffer of window 5 holds its block. -/
theorem before0_5 (c : Dev nD) (t : Fin cfg0.N) (d) : (dats m 0 c).before 5 t d = iblk m c 5 t :=
  before0_5_of m (dats m 0 c) (A_eq m c 5) (after0_5 m c) t d
/-- Before a point the buffer of window 6 holds its block. -/
theorem before0_6 (c : Dev nD) (t : Fin cfg0.N) (d) : (dats m 0 c).before 6 t d = iblk m c 6 t :=
  before0_6_of m (dats m 0 c) (A_eq m c 6) (after0_6 m c) t d

/-- An input's buffer is left at its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
/-- A point leaves the buffer of window 1 at its block. -/
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
/-- A point leaves the buffer of window 2 at its block. -/
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
/-- A point leaves the buffer of window 3 at its block. -/
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
/-- A point leaves the buffer of window 4 at its block. -/
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
/-- A point leaves the buffer of window 5 at its block. -/
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
/-- A point leaves the buffer of window 6 at its block. -/
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]

/-- The result's window is idle at the points before the first stored block, -/
theorem idle0_7 : ∀ t : Fin cfg0.N, t.val < 4 → cfg0.idle 7 (grid0.coords t) = true :=
  (by decide +kernel : ∀ t : Fin grid0.N, t.val < 4 → cfg0.idle 7 (grid0.coords t) = true)
/-- and is not written back there; -/
theorem noflush0_7 : ∀ t : Fin cfg0.N, t.val < 4 → (cfg0.win 7).flush t = false :=
  (by decide +kernel : ∀ t : Fin grid0.N, t.val < 4 → (cfg0.win 7).flush t = false)
/-- from there on it is live. -/
theorem live0_7 : ∀ t : Fin cfg0.N, 4 ≤ t.val → cfg0.idle 7 (grid0.coords t) = false :=
  (by decide +kernel : ∀ t : Fin grid0.N, 4 ≤ t.val → cfg0.idle 7 (grid0.coords t) = false)

/-- Before the first stored block the result's buffer is left as it was found. -/
theorem leaves0_7_idle (c : Dev nD) (t : Fin cfg0.N) (h : t.val < 4) :
    (dats m 0 c).leavesExact 7 t = iprop(∃ d, owns (c : Thread nD τ) (ms0_7 t) fullShare ((dats m 0 c).before 7 t d)) :=
  (dats m 0 c).leavesExact_idle 7 t (idle0_7 t h) (noflush0_7 t h)

/-- From there on it is left at the block of the result. -/
theorem leaves0_7_live (c : Dev nD) (t : Fin cfg0.N) (h : 4 ≤ t.val) :
    (dats m 0 c).leavesExact 7 t = owns (c : Thread nD τ) (ms0_7 t) fullShare (yOf m c t) := by
  unfold Dat.leavesExact; rw [live0_7 t h, after0_7]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point: the inputs' memrefs hold their blocks; the closed forms say which case the point is in; the case's run applies, and
    what it leaves in the carried buffers is what the invariant asks before the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiV m c (t.val + 1) from rfl, show (dats m 0 c).Φ t.castSucc = PhiV m c t.val from rfl]
  unfold PhiV
  have hN : t.val < 20 := lt_of_lt_of_eq t.isLt (show cfg0.N = 20 from N_0)
  by_cases h1 : t.val < 4
  · by_cases h0 : t.val = 0
    · rw [leaves0_7_idle m c t h1]
      iintro ⟨⟨%e9, %e10, %e11, %e12, %hinv, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr (by omega)) ((hcond0_1 t).mpr h1) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) ((dats m 0 c).before 7 t d7) e9 e10 e11 e12 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, ⟨%g11, %hg, HS2⟩, HS3⟩
      isplitl [HS0 HS1 HS2 HS3 Hg]
      · iexists _, _, _, _
        isplitr; swap
        · isplitl [HS0 HS1 HS2 HS3]
          · isplitl [HS0]; · iexact HS0
            isplitl [HS1]; · iexact HS1
            isplitl [HS2]; · iexact HS2
            iexact HS3
          iexact Hg
        ipureintro; exact Inv.first m c t h0 hinv hg.1 hg.2.1 hg.2.2.1 hg.2.2.2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [leaves0_7_idle m c t h1]
      iintro ⟨⟨%e9, %e10, %e11, %e12, %hinv, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => absurd ((hcond0_0 t).mp h) (by omega)) ((hcond0_1 t).mpr h1) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) ((dats m 0 c).before 7 t d7) e9 e10 e11 e12 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, ⟨%g11, %hg, HS2⟩, HS3⟩
      isplitl [HS0 HS1 HS2 HS3 Hg]
      · iexists _, _, _, _
        isplitr; swap
        · isplitl [HS0 HS1 HS2 HS3]
          · isplitl [HS0]; · iexact HS0
            isplitl [HS1]; · iexact HS1
            isplitl [HS2]; · iexact HS2
            iexact HS3
          iexact Hg
        ipureintro; exact Inv.gather m c t h0 h1 hinv hg.1 hg.2.1 hg.2.2.1 hg.2.2.2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h4 : 4 ≤ t.val := by omega
    by_cases h5 : t.val = 4
    · rw [leaves0_7_live m c t h4]
      iintro ⟨⟨%e9, %e10, %e11, %e12, %hinv, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => absurd ((hcond0_0 t).mp h) (by omega)) (fun h => absurd ((hcond0_1 t).mp h) (by omega)) ((hcond0_2 t).mpr (by omega)) ((hcond0_3 t).mpr h4) (iblk m c 0 t) (iblk m c 1 t) (iblk m c 2 t) (iblk m c 3 t) (iblk m c 4 t) (iblk m c 5 t) (iblk m c 6 t) ((dats m 0 c).before 7 t d7) e9 e10 e11 e12 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, ⟨%g12, %hg, HS3⟩⟩
      isplitl [HS0 HS1 HS2 HS3 Hg]
      · iexists _, _, _, _
        isplitr; swap
        · isplitl [HS0 HS1 HS2 HS3]
          · isplitl [HS0]; · iexact HS0
            isplitl [HS1]; · iexact HS1
            isplitl [HS2]; · iexact HS2
            iexact HS3
          iexact Hg
        ipureintro; exact Inv.normed m c t h5 hinv hg.1 hg.2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      have hy : yblk (grid0.coords t) ((hcond0_3 t).mpr h4) (iblk m c 4 t) (iblk m c 5 t) (hact (iblk m c 6 t) e9 e11) e10 (arow (iblk m c 6 t) e11) (brow (iblk m c 6 t) e11) = yOf m c t := by
        unfold yOf; rw [dif_pos h4, (hinv.norm m c t h5).1, (hinv.norm m c t h5).2.1, (hinv.norm m c t h5).2.2, hinv.whole m h4]
      rw [hy]
      iexact H7
    · rw [leaves0_7_live m c t h4]
      iintro ⟨⟨%e9, %e10, %e11, %e12, %hinv, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => absurd ((hcond0_0 t).mp h) (by omega)) (fun h => absurd ((hcond0_1 t).mp h) (by omega)) (fun h => absurd ((hcond0_2 t).mp h) (by omega)) ((hcond0_3 t).mpr h4) (iblk m c 0 t) (iblk m c 1 t) (iblk m c 2 t) (iblk m c 3 t) (iblk m c 4 t) (iblk m c 5 t) (iblk m c 6 t) ((dats m 0 c).before 7 t d7) e9 e10 e11 e12 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · iexists _, _, _, _
        isplitr; swap
        · isplitl [HS0 HS1 HS2 HS3]
          · isplitl [HS0]; · iexact HS0
            isplitl [HS1]; · iexact HS1
            isplitl [HS2]; · iexact HS2
            iexact HS3
          iexact Hg
        ipureintro; exact Inv.stay m c t (by omega) hinv
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      have hy : yblk (grid0.coords t) ((hcond0_3 t).mpr h4) (iblk m c 4 t) (iblk m c 5 t) e9 e10 (row2 e12) (row3 e12) = yOf m c t := by
        unfold yOf; rw [dif_pos h4, (hinv.late (by omega)).1, (hinv.late (by omega)).2.1, (hinv.late (by omega)).2.2, hinv.whole m h4]
      rw [hy]
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiV m c 0 from rfl, PhiA0_eq]
  unfold PhiV
  iintro ⟨⟨⟨%e9, HS0⟩, ⟨%e10, HS1⟩, ⟨%e11, HS2⟩, ⟨%e12, HS3⟩⟩, Hg⟩
  iexists _, _, _, _
  isplitr; swap
  · isplitl [HS0 HS1 HS2 HS3]
    · isplitl [HS0]; · iexact HS0
      isplitl [HS1]; · iexact HS1
      isplitl [HS2]; · iexact HS2
      iexact HS3
    iexact Hg
  ipureintro; exact Inv.start m c _ _ _ _

/-- After the last point the carried buffers' contents are forgotten. -/
theorem hout (c : Dev nD) : (dats m 0 c).Φ (Fin.last cfg0.N) ⊢ Pipeline.ΦA spec0 c := by
  rw [show (dats m 0 c).Φ (Fin.last cfg0.N) = PhiV m c (Fin.last cfg0.N).val from rfl, PhiA0_eq]
  unfold PhiV
  iintro ⟨%e9, %e10, %e11, %e12, %hinv, ⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

-- `θ_run_frame_track`'s implicit arguments are found by unifying its conclusion with this one, which takes unfolding plain
-- definitions in a metavariable's type
set_option backward.isDefEq.respectTransparency.types false in
/-- The launch: every weakly fair execution terminates, with every array of the pipeline as the write-backs leave it, every other buffer at its
    contents before the region, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Gen

end
-- ==== Proof.Value.Blocks.lean ====
/- The blocks the kernel's body reads, at an index: elements of the argument arrays. -/
module

public import Idealize.ShloMosaic.Lib.Pointwise
public import Idealize.ShloMosaic.Lib.Pipeline.ValueKit
public import Idealize.ShloMosaic.Lib.Claim
public import Idealize.ShloMosaic.Lib.StableHlo.ReadAt
public import proofs.«01_k».proof.Proof.IdealRun.Frame

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ)

/-- Input window 0 stands on its whole array at every point. -/
theorem idx0 : ∀ t : Fin cfg0.N, win0_0.index t = ![0, 0] := (by decide +kernel : ∀ t : Fin grid0.N, win0_0.index t = ![0, 0])
/-- Input window 2 stands on its whole array at every point. -/
theorem idx2 : ∀ t : Fin cfg0.N, win0_2.index t = ![0, 0] := (by decide +kernel : ∀ t : Fin grid0.N, win0_2.index t = ![0, 0])
/-- Input window 3 stands on its whole array at every point. -/
theorem idx3 : ∀ t : Fin cfg0.N, win0_3.index t = ![0, 0] := (by decide +kernel : ∀ t : Fin grid0.N, win0_3.index t = ![0, 0])
/-- Input window 6 stands on its whole array at every point. -/
theorem idx6 : ∀ t : Fin cfg0.N, win0_6.index t = ![0, 0] := (by decide +kernel : ∀ t : Fin grid0.N, win0_6.index t = ![0, 0])
/-- The window of the fine features: a chunk at each gathering point. -/
theorem idx1 : ∀ t : Fin cfg0.N, t.val < 4 → win0_1.index t = ![t.val, 0] := (by decide +kernel : ∀ t : Fin grid0.N, t.val < 4 → win0_1.index t = ![t.val, 0])
/-- The window of the coarse positions: a batch. -/
theorem idx4 : ∀ t : Fin cfg0.N, 4 ≤ t.val → win0_4.index t = ![(t.val - 4) / 8, 0, 0] := (by decide +kernel : ∀ t : Fin grid0.N, 4 ≤ t.val → win0_4.index t = ![(t.val - 4) / 8, 0, 0])
/-- The window of the fine positions: a batch's block of rows. -/
theorem idx5 : ∀ t : Fin cfg0.N, 4 ≤ t.val → win0_5.index t = ![(t.val - 4) / 8, (t.val - 4) % 8, 0] := (by decide +kernel : ∀ t : Fin grid0.N, 4 ≤ t.val → win0_5.index t = ![(t.val - 4) / 8, (t.val - 4) % 8, 0])
/-- The window of the result: the same block of rows. -/
theorem idx7 : ∀ t : Fin cfg0.N, 4 ≤ t.val → win0_7.index t = ![(t.val - 4) / 8, (t.val - 4) % 8, 0] := (by decide +kernel : ∀ t : Fin grid0.N, 4 ≤ t.val → win0_7.index t = ![(t.val - 4) / 8, (t.val - 4) % 8, 0])

/-- The coarse features, batch and point merged. -/
theorem iblk0_apply (c : Dev nD) (t : Fin cfg0.N) (r : Fin 4096) (k : Fin 512) :
    iblk m c 0 t (ix2 r k) = m ((c.tc : Thread nD τ).loc main_arg0) (ix3 (⟨r.val / 2048, by omega⟩ : Fin 2) (⟨r.val % 2048, by omega⟩ : Fin 2048) k) := by
  blk_simp [iblk]
  entry_read
  pointwise
  blk_ext [idx0 t]

/-- The weights of the up projection. -/
theorem iblk2_apply (c : Dev nD) (t : Fin cfg0.N) (o : Fin 256) (k : Fin 512) :
    iblk m c 2 t (ix2 o k) = m ((c.tc : Thread nD τ).loc main_arg4) (ix2 o k) := by
  blk_ext [iblk, V, idx2 t]

/-- The weights of the lateral projection. -/
theorem iblk3_apply (c : Dev nD) (t : Fin cfg0.N) (o : Fin 256) (k : Fin 256) :
    iblk m c 3 t (ix2 o k) = m ((c.tc : Thread nD τ).loc main_arg7) (ix2 o k) := by
  blk_ext [iblk, V, idx3 t]

/-- A chunk of the fine features. -/
theorem iblk1_apply (c : Dev nD) (t : Fin cfg0.N) (ht : t.val < 4) (r : Fin 4096) (k : Fin 256) :
    iblk m c 1 t (ix2 r k) = m ((c.tc : Thread nD τ).loc main_arg2)
      (ix3 (⟨(4096 * t.val + r.val) / 8192, by omega⟩ : Fin 2) (⟨(4096 * t.val + r.val) % 8192, by omega⟩ : Fin 8192) k) := by
  blk_simp [iblk]
  entry_read
  pointwise
  blk_ext [idx1 t ht]

/-- The coarse positions of a block's batch. -/
theorem iblk4_apply (c : Dev nD) (t : Fin cfg0.N) (ht : 4 ≤ t.val) (a : Fin 3) (n : Fin 2048) :
    iblk m c 4 t (ix3 (0 : Fin 1) a n) = m ((c.tc : Thread nD τ).loc main_arg1)
      (ix3 (⟨(t.val - 4) / 8, by have := t.isLt; have := (show cfg0.N = 20 from N_0); omega⟩ : Fin 2) n a) := by
  blk_simp [iblk]
  unfold V
  after_reads_at
  blk_ext [idx4 t ht]

/-- The fine positions of a block. -/
theorem iblk5_apply (c : Dev nD) (t : Fin cfg0.N) (ht : 4 ≤ t.val) (r : Fin 1024) (a : Fin 3) :
    iblk m c 5 t (ix3 (0 : Fin 1) r a) = m ((c.tc : Thread nD τ).loc main_arg3)
      (ix3 (⟨(t.val - 4) / 8, by have := t.isLt; have := (show cfg0.N = 20 from N_0); omega⟩ : Fin 2) (⟨1024 * ((t.val - 4) % 8) + r.val, by omega⟩ : Fin 8192) a) := by
  blk_ext [iblk, V, idx5 t ht]

/-- The block of parameters is the whole array of them. -/
theorem iblk6_apply (c : Dev nD) (t : Fin cfg0.N) (k : Fin 4) (o : Fin 256) :
    iblk m c 6 t (ix2 k o) = V m c main_call0_v6 (ix2 k o) := by
  blk_ext [iblk, idx6 t]

/-- The parameters: row 0 is the scales of the coarse branch. -/
theorem V6_0 (c : Dev nD) (o : Fin 256) : V m c main_call0_v6 (ix2 (0 : Fin 4) o) = m ((c.tc : Thread nD τ).loc main_arg5) (ix1 o) := by
  unfold V
  after_reads_at
  after_reads_simp
  change broadcastInDim S1x256 ![1] bcast_S256_S1x256_1 (m (c, Proc.tc.devRef main_arg5)) (ix2 0 o) = _
  pointwise

/-- The parameters: row 1 is its shifts. -/
theorem V6_1 (c : Dev nD) (o : Fin 256) : V m c main_call0_v6 (ix2 (1 : Fin 4) o) = m ((c.tc : Thread nD τ).loc main_arg6) (ix1 o) := by
  unfold V
  after_reads_at
  after_reads_simp
  change broadcastInDim S1x256 ![1] bcast_S256_S1x256_1 (m (c, Proc.tc.devRef main_arg6)) (ix2 0 o) = _
  pointwise

/-- The parameters: row 2 is the scales of the lateral branch. -/
theorem V6_2 (c : Dev nD) (o : Fin 256) : V m c main_call0_v6 (ix2 (2 : Fin 4) o) = m ((c.tc : Thread nD τ).loc main_arg8) (ix1 o) := by
  unfold V
  after_reads_at
  after_reads_simp
  change broadcastInDim S1x256 ![1] bcast_S256_S1x256_1 (m (c, Proc.tc.devRef main_arg8)) (ix2 0 o) = _
  pointwise

/-- The parameters: row 3 is its shifts. -/
theorem V6_3 (c : Dev nD) (o : Fin 256) : V m c main_call0_v6 (ix2 (3 : Fin 4) o) = m ((c.tc : Thread nD τ).loc main_arg9) (ix1 o) := by
  unfold V
  after_reads_at
  after_reads_simp
  change broadcastInDim S1x256 ![1] bcast_S256_S1x256_1 (m (c, Proc.tc.devRef main_arg9)) (ix2 0 o) = _
  pointwise

/-- Row 0 of the parameters as the body reads it. -/
theorem GB_row0 (c : Dev nD) (o : Fin 256) : row0 (GB m c) (ix2 (0 : Fin 1) o) = m ((c.tc : Thread nD τ).loc main_arg5) (ix1 o) := by
  unfold row0 GB
  pointwise
  rw [iblk6_apply, V6_0]

/-- Row 1 of the parameters as the body reads it. -/
theorem GB_row1 (c : Dev nD) (o : Fin 256) : row1 (GB m c) (ix2 (0 : Fin 1) o) = m ((c.tc : Thread nD τ).loc main_arg6) (ix1 o) := by
  unfold row1 GB
  pointwise
  rw [iblk6_apply, V6_1]

/-- Row 2 of the parameters as the body reads it. -/
theorem GB_row2 (c : Dev nD) (o : Fin 256) : row2 (GB m c) (ix2 (0 : Fin 1) o) = m ((c.tc : Thread nD τ).loc main_arg8) (ix1 o) := by
  unfold row2 GB
  pointwise
  rw [iblk6_apply, V6_2]

/-- Row 3 of the parameters as the body reads it. -/
theorem GB_row3 (c : Dev nD) (o : Fin 256) : row3 (GB m c) (ix2 (0 : Fin 1) o) = m ((c.tc : Thread nD τ).loc main_arg9) (ix1 o) := by
  unfold row3 GB
  pointwise
  rw [iblk6_apply, V6_3]

end Cert.KernelIdeal.Gen

end
-- ==== Proof.Value.Spec.lean ====
/- The quantities that the two computations' values are stated by, over the extended reals. -/
module

public import Idealize.ShloMosaic.Lib.Pointwise

@[expose] public section

noncomputable section

namespace Cert.Value

open Idealize.ShloMosaic

/-- The scale of a branch from its sum, its sum of squares and its gain. -/
def bnScale (n s1 s2 g : EReal) : EReal :=
  g * Ideal.rsqrt (max (Ideal.div s2 n - Ideal.div s1 n * Ideal.div s1 n) 0 + Ideal.ofBits .f32 0x3727C5AC#32)

/-- The shift of a branch from its sum, its scale and its offset. -/
def bnShift (n s1 a b : EReal) : EReal := b - Ideal.div s1 n * a

/-- The squared distance of three coordinate differences. -/
def sqd (a b c : EReal) : EReal := a * a + b * b + c * c

/-- A normalised entry: the entry less the mean, over the square root of the variance and a small number, scaled, shifted and rectified. -/
def bnRef (z mu var g b : EReal) : EReal :=
  max (Ideal.div (z - mu) (Ideal.sqrt (var + Ideal.ofBits .f32 925353388#32)) * g + b) 0

/-- The infinity that stands for a masked distance. -/
def big : EReal := Ideal.ofBits .f32 0x7F800000#32
/-- The smallest of a row of distances. -/
def rowMin (d : Fin 2048 → EReal) : EReal := Finset.fold min big d Finset.univ
/-- The row with the entries at the value of a second row masked. -/
def mask (d e : Fin 2048 → EReal) : Fin 2048 → EReal := fun x => if d x = e x then big else d x
/-- The weight of a distance. -/
def wt (v : EReal) : EReal := Ideal.div 1 (max v (Ideal.ofBits .f32 0x24E69595#32))

/-- The selected weight at an entry, from the row's three smallest values. -/
def selW (d : Fin 2048 → EReal) (m0 m1 m2 : EReal) (n : Fin 2048) : EReal :=
  if d n = m0 then Ideal.div (wt m0) (wt m0 + wt m1 + wt m2)
  else if d n = m1 then Ideal.div (wt m1) (wt m0 + wt m1 + wt m2)
  else if d n = m2 then Ideal.div (wt m2) (wt m0 + wt m1 + wt m2)
  else 0

/-- The second smallest value: the smallest once the first is masked. -/
def min1 (d : Fin 2048 → EReal) (e : Fin 2048 → EReal) : EReal := rowMin (mask d e)
/-- The third smallest value. -/
def min2 (d : Fin 2048 → EReal) (e : Fin 2048 → EReal) : EReal := rowMin (mask (mask d e) fun _ => min1 d e)

/-- The selected weight at an entry of a row of distances. -/
def knnW (d : Fin 2048 → EReal) (n : Fin 2048) : EReal :=
  selW d (rowMin d) (min1 d fun _ => rowMin d) (min2 d fun _ => rowMin d) n

/-- The up projection by batch, point and channel. -/
def projU (x : FVec Ideal ⟨3, ![2, 2048, 512]⟩ .f32) (w : FVec Ideal ⟨2, ![256, 512]⟩ .f32) (b : Fin 2) (n : Fin 2048) (o : Fin 256) : EReal :=
  ∑ k : Fin 512, x (ix3 b n k) * w (ix2 o k)
/-- The lateral projection by batch, point and channel. -/
def projL (x : FVec Ideal ⟨3, ![2, 8192, 256]⟩ .f32) (w : FVec Ideal ⟨2, ![256, 256]⟩ .f32) (b : Fin 2) (r : Fin 8192) (o : Fin 256) : EReal :=
  ∑ k : Fin 256, x (ix3 b r k) * w (ix2 o k)
/-- The squared distance of a fine and a coarse point. -/
def dist2 (po : FVec Ideal ⟨3, ![2, 8192, 3]⟩ .f32) (p : FVec Ideal ⟨3, ![2, 2048, 3]⟩ .f32) (b : Fin 2) (r : Fin 8192) (n : Fin 2048) : EReal :=
  sqd (po (ix3 b r (0 : Fin 3)) - p (ix3 b n (0 : Fin 3))) (po (ix3 b r (1 : Fin 3)) - p (ix3 b n (1 : Fin 3))) (po (ix3 b r (2 : Fin 3)) - p (ix3 b n (2 : Fin 3)))
/-- A normalised entry as a scale and a shift: from the entry, the sums over two axes of the entries and of their squares, the gain and the offset. -/
def bnKer {q : ℕ} (n : EReal) (X : Fin 2 → Fin q → EReal) (g be : EReal) (b : Fin 2) (r : Fin q) : EReal :=
  max (X b r * bnScale n (∑ b, ∑ r, X b r) (∑ b, ∑ r, X b r * X b r) g
    + bnShift n (∑ b, ∑ r, X b r) (bnScale n (∑ b, ∑ r, X b r) (∑ b, ∑ r, X b r * X b r) g) be) 0

/-- A sum over the rows of an array whose first two axes are merged is the sum over both axes. -/
theorem sum_split {p q : ℕ} (f : Fin p → Fin q → EReal) :
    ∑ r : Fin (p * q), f (finProdFinEquiv.symm r).1 (finProdFinEquiv.symm r).2 = ∑ a : Fin p, ∑ b : Fin q, f a b := by
  rw [← Fintype.sum_prod_type']
  exact Fintype.sum_equiv finProdFinEquiv.symm _ _ fun r => rfl

/-- The same by quotient and remainder. -/
theorem sum_div_mod {p q n : ℕ} (hn : n = p * q) (hq : 0 < q) (f : Fin p → Fin q → EReal) :
    ∑ r : Fin n, f ⟨r.val / q, (Nat.div_lt_iff_lt_mul hq).mpr (hn ▸ r.isLt)⟩ ⟨r.val % q, Nat.mod_lt _ hq⟩ = ∑ a : Fin p, ∑ b : Fin q, f a b := by
  subst hn
  exact sum_split f

/-- A sum over merged rows is the sum over chunks of the sum over each chunk's rows. -/
theorem sum_chunks {p q : ℕ} (g : ℕ → EReal) : ∑ r : Fin (p * q), g r.val = ∑ a : Fin p, ∑ b : Fin q, g (q * a.val + b.val) := by
  rw [← sum_split fun a b => g (q * a.val + b.val)]
  refine Finset.sum_congr rfl fun r _ => congrArg g ?_
  show r.val = q * (r.val / q) + r.val % q
  exact (Nat.div_add_mod _ _).symm

end Cert.Value

end
-- ==== Proof.Value.Payloads.lean ====
/- What the kernel's body computes, at an index. -/
module

public import Idealize.ShloMosaic.Lib.Pointwise
public import proofs.«01_k».proof.Proof.IdealRun.Frame
public import proofs.«01_k».proof.Proof.Value.Spec

@[expose] public section

set_option maxRecDepth 16384

noncomputable section

namespace Cert.KernelIdeal.Gen

open Idealize.ShloMosaic Idealize.ShloMosaic.TcCoe Idealize.ShloMosaic.Tactic Cert.Value

/-- The up projection at a row and a channel. -/
theorem pay1_apply (x0 : Vec Ideal S4096x512 .f32) (x2 : Vec Ideal S256x512 .f32) (r : Fin 4096) (o : Fin 256) :
    k0_pay1 x0 x2 (ix2 r o) = ∑ k : Fin 512, x0 (ix2 r k) * x2 (ix2 o k) := by
  pointwise [k0_pay1]

/-- The up projection, as it is stored. -/
theorem pay2_apply (x0 : Vec Ideal S4096x512 .f32) (x2 : Vec Ideal S256x512 .f32) (r : Fin 4096) (o : Fin 256) :
    k0_pay2 x0 x2 (ix2 r o) = k0_pay1 x0 x2 (ix2 r o) := by
  pointwise [k0_pay2]

/-- Its column sums. -/
theorem pay3_apply (x0 : Vec Ideal S4096x512 .f32) (x2 : Vec Ideal S256x512 .f32) (o : Fin 256) :
    k0_pay3 x0 x2 (ix2 (0 : Fin 1) o) = ∑ r : Fin 4096, k0_pay1 x0 x2 (ix2 r o) := by
  pointwise [k0_pay3]

/-- Its column sums of squares. -/
theorem pay4_apply (x0 : Vec Ideal S4096x512 .f32) (x2 : Vec Ideal S256x512 .f32) (o : Fin 256) :
    k0_pay4 x0 x2 (ix2 (0 : Fin 1) o) = ∑ r : Fin 4096, k0_pay1 x0 x2 (ix2 r o) * k0_pay1 x0 x2 (ix2 r o) := by
  pointwise [k0_pay4]

/-- A chunk of the lateral projection at a row and a channel. -/
theorem pay6_apply (x1 : Vec Ideal S4096x256 .f32) (x3 : Vec Ideal S256x256 .f32) (r : Fin 4096) (o : Fin 256) :
    k0_pay6 x1 x3 (ix2 r o) = ∑ k : Fin 256, x1 (ix2 r k) * x3 (ix2 o k) := by
  pointwise [k0_pay6]

/-- The lateral projection of a chunk, as it is stored. -/
theorem pay7_apply (x1 : Vec Ideal S4096x256 .f32) (x3 : Vec Ideal S256x256 .f32) (r : Fin 4096) (o : Fin 256) :
    k0_pay7 x1 x3 (ix2 r o) = k0_pay6 x1 x3 (ix2 r o) := by
  pointwise [k0_pay7]

/-- The lateral column sums after a chunk. -/
theorem pay8_apply (x1 : Vec Ideal S4096x256 .f32) (x3 : Vec Ideal S256x256 .f32) (v : Vec Ideal S1x256 .f32) (o : Fin 256) :
    k0_pay8 x1 x3 v (ix2 (0 : Fin 1) o) = v (ix2 (0 : Fin 1) o) + ∑ r : Fin 4096, k0_pay6 x1 x3 (ix2 r o) := by
  pointwise [k0_pay8]

/-- The lateral column sums of squares after a chunk. -/
theorem pay9_apply (x1 : Vec Ideal S4096x256 .f32) (x3 : Vec Ideal S256x256 .f32) (v : Vec Ideal S1x256 .f32) (o : Fin 256) :
    k0_pay9 x1 x3 v (ix2 (0 : Fin 1) o) = v (ix2 (0 : Fin 1) o) + ∑ r : Fin 4096, k0_pay6 x1 x3 (ix2 r o) * k0_pay6 x1 x3 (ix2 r o) := by
  pointwise [k0_pay9]

/-- The activations normalised and rectified. -/
theorem pay12_apply (a b : Vec Ideal S1x256 .f32) (z : Vec Ideal S4096x256 .f32) (r : Fin 4096) (o : Fin 256) :
    k0_pay12 a b z (ix2 r o) = max (z (ix2 r o) * a (ix2 (0 : Fin 1) o) + b (ix2 (0 : Fin 1) o)) 0 := by
  pointwise [k0_pay12]

/-- The up branch's scale. -/
theorem pay15_apply (s1 s2 g : Vec Ideal S1x256 .f32) (o : Fin 256) :
    k0_pay15 s1 s2 g (ix2 (0 : Fin 1) o) = bnScale (Ideal.ofBits .f32 0x45800000#32) (s1 (ix2 (0 : Fin 1) o)) (s2 (ix2 (0 : Fin 1) o)) (g (ix2 (0 : Fin 1) o)) := by
  pointwise [k0_pay15, k0_pay14, bnScale]

/-- The up branch's shift. -/
theorem pay16_apply (s1 s2 g b : Vec Ideal S1x256 .f32) (o : Fin 256) :
    k0_pay16 s1 s2 g b (ix2 (0 : Fin 1) o)
      = bnShift (Ideal.ofBits .f32 0x45800000#32) (s1 (ix2 (0 : Fin 1) o)) (k0_pay15 s1 s2 g (ix2 (0 : Fin 1) o)) (b (ix2 (0 : Fin 1) o)) := by
  pointwise [k0_pay16, k0_pay14, bnShift]

/-- The lateral branch's scale. -/
theorem pay18_apply (s1 s2 g : Vec Ideal S1x256 .f32) (o : Fin 256) :
    k0_pay18 s1 s2 g (ix2 (0 : Fin 1) o) = bnScale (Ideal.ofBits .f32 0x46800000#32) (s1 (ix2 (0 : Fin 1) o)) (s2 (ix2 (0 : Fin 1) o)) (g (ix2 (0 : Fin 1) o)) := by
  pointwise [k0_pay18, k0_pay17, bnScale]

/-- The lateral scale, as it is stored. -/
theorem pay10_apply (v : Vec Ideal S1x256 .f32) (o : Fin 256) : k0_pay10 (F := Ideal) v (ix2 (0 : Fin 1) o) = v (ix2 (0 : Fin 1) o) := by
  pointwise [k0_pay10]

/-- The lateral branch's shift. -/
theorem pay11_apply (s1 s b : Vec Ideal S1x256 .f32) (o : Fin 256) :
    k0_pay11 (F := Ideal) (k0_pay17 s1) s b (ix2 (0 : Fin 1) o) = bnShift (Ideal.ofBits .f32 0x46800000#32) (s1 (ix2 (0 : Fin 1) o)) (s (ix2 (0 : Fin 1) o)) (b (ix2 (0 : Fin 1) o)) := by
  pointwise [k0_pay17, k0_pay11, bnShift]

/-- A block of the result at a row and a channel. -/
theorem pay13_apply (w : Vec Ideal S1024x2048 .f32) (h : Vec Ideal S2048x256 .f32) (z : Vec Ideal S1024x256 .f32) (a b : Vec Ideal S1x256 .f32)
    (r : Fin 1024) (o : Fin 256) :
    k0_pay13 w h z a b (ix3 (0 : Fin 1) r o)
      = (∑ n : Fin 2048, w (ix2 r n) * h (ix2 n o)) + max (z (ix2 r o) * a (ix2 (0 : Fin 1) o) + b (ix2 (0 : Fin 1) o)) 0 := by
  pointwise [k0_pay13]

/-- The squared distances of a block. -/
theorem pay19_apply (x5 : Vec Ideal S1x1024x3 .f32) (x4 : Vec Ideal S1x3x2048 .f32) (r : Fin 1024) (n : Fin 2048) :
    k0_pay19 x5 x4 (ix2 r n) = sqd (x5 (ix3 0 r 0) - x4 (ix3 0 0 n)) (x5 (ix3 0 r 1) - x4 (ix3 0 1 n)) (x5 (ix3 0 r 2) - x4 (ix3 0 2 n)) := by
  pointwise [k0_pay19, sqd]

/-- The smallest distance of each row of a block. -/
theorem pay20_apply (x5 : Vec Ideal S1x1024x3 .f32) (x4 : Vec Ideal S1x3x2048 .f32) (r : Fin 1024) :
    k0_pay20 x5 x4 (ix2 r (0 : Fin 1)) = Finset.fold min (Ideal.ofBits FTy.f32 0x7F800000#32) (fun x => k0_pay19 x5 x4 (ix2 r x)) Finset.univ := by
  pointwise [k0_pay20]

/-- That smallest distance spread over the row. -/
theorem pay21_apply (x5 : Vec Ideal S1x1024x3 .f32) (x4 : Vec Ideal S1x3x2048 .f32) (r : Fin 1024) (n : Fin 2048) :
    k0_pay21 x5 x4 (ix2 r n) = k0_pay20 x5 x4 (ix2 r (0 : Fin 1)) := by
  pointwise [k0_pay21]

end Cert.KernelIdeal.Gen

end
-- ==== Proof.Value.Weights.lean ====
/- The weights the kernel's body selects from a row of distances. -/
module

public import Idealize.ShloMosaic.Lib.Pointwise
public import proofs.«01_k».proof.Proof.Gen.KernelIdeal.Skeleton
public import proofs.«01_k».proof.Proof.Value.Spec

@[expose] public section

set_option maxRecDepth 16384

noncomputable section

namespace Cert.KernelIdeal.Gen

open Idealize.ShloMosaic Idealize.ShloMosaic.TcCoe Idealize.ShloMosaic.Tactic Cert.Value

/-- The selected weights at a row and an entry. -/
theorem pay22_apply (d : FVec Ideal S1024x2048 .f32) (m0 : FVec Ideal S1024x1 .f32) (mb : FVec Ideal S1024x2048 .f32) (r : Fin 1024) (n : Fin 2048)
    (hmb : ∀ x, mb (ix2 r x) = m0 (ix2 r (0 : Fin 1))) :
    k0_pay22 d m0 mb (ix2 r n) = selW (fun x => d (ix2 r x)) (m0 (ix2 r (0 : Fin 1)))
      (min1 (fun x => d (ix2 r x)) fun _ => m0 (ix2 r (0 : Fin 1))) (min2 (fun x => d (ix2 r x)) fun _ => m0 (ix2 r (0 : Fin 1))) n := by
  pointwise [k0_pay22]
  simp only [hmb]
  rfl

end Cert.KernelIdeal.Gen

end
-- ==== Proof.Value.Kernel.lean ====
/- The array the idealized kernel leaves, at an index, from the argument arrays. -/
module

public import Idealize.ShloMosaic.Lib.Pointwise
public import proofs.«01_k».proof.Proof.Value.Blocks
public import proofs.«01_k».proof.Proof.Value.Payloads
public import proofs.«01_k».proof.Proof.Value.Weights
public import proofs.«01_k».proof.Proof.Value.Spec

@[expose] public section

set_option maxRecDepth 16384

noncomputable section

namespace Cert.KernelIdeal.Gen

open Idealize.ShloMosaic Idealize.ShloMosaic.TcCoe Idealize.ShloMosaic.Tactic Cert.Value

variable (m : (ℓ : Loc nD τ sig) → Buf (Elt Ideal) ℓ)

/-- The up projection by batch, point and channel. -/
def Xu (c : Dev nD) : Fin 2 → Fin 2048 → Fin 256 → EReal := projU (m ((c.tc : Thread nD τ).loc main_arg0)) (m ((c.tc : Thread nD τ).loc main_arg4))
/-- The lateral projection by batch, point and channel. -/
def Xl (c : Dev nD) : Fin 2 → Fin 8192 → Fin 256 → EReal := projL (m ((c.tc : Thread nD τ).loc main_arg2)) (m ((c.tc : Thread nD τ).loc main_arg7))
/-- The squared distance of a fine and a coarse point. -/
def dd (c : Dev nD) : Fin 2 → Fin 8192 → Fin 2048 → EReal := dist2 (m ((c.tc : Thread nD τ).loc main_arg3)) (m ((c.tc : Thread nD τ).loc main_arg1))

/-- The up branch's scale. -/
def scU (c : Dev nD) (o : Fin 256) : EReal :=
  bnScale (Ideal.ofBits .f32 0x45800000#32) (∑ b, ∑ n, Xu m c b n o) (∑ b, ∑ n, Xu m c b n o * Xu m c b n o) (m ((c.tc : Thread nD τ).loc main_arg5) (ix1 o))
/-- The up branch's shift. -/
def shU (c : Dev nD) (o : Fin 256) : EReal :=
  bnShift (Ideal.ofBits .f32 0x45800000#32) (∑ b, ∑ n, Xu m c b n o) (scU m c o) (m ((c.tc : Thread nD τ).loc main_arg6) (ix1 o))
/-- The lateral branch's scale. -/
def scL (c : Dev nD) (o : Fin 256) : EReal :=
  bnScale (Ideal.ofBits .f32 0x46800000#32) (∑ b, ∑ n, Xl m c b n o) (∑ b, ∑ n, Xl m c b n o * Xl m c b n o) (m ((c.tc : Thread nD τ).loc main_arg8) (ix1 o))
/-- The lateral branch's shift. -/
def shL (c : Dev nD) (o : Fin 256) : EReal :=
  bnShift (Ideal.ofBits .f32 0x46800000#32) (∑ b, ∑ n, Xl m c b n o) (scL m c o) (m ((c.tc : Thread nD τ).loc main_arg9) (ix1 o))

/-- The result by batch, point and channel. -/
def outAt (c : Dev nD) (b : Fin 2) (r : Fin 8192) (o : Fin 256) : EReal :=
  (∑ n : Fin 2048, knnW (dd m c b r) n * max (Xu m c b n o * scU m c o + shU m c o) 0) + max (Xl m c b r o * scL m c o + shL m c o) 0

/-- The result array. -/
def OUT (c : Dev nD) : FVec Ideal S2x8192x256 .f32 := fun y => outAt m c (y 0) (y 1) (y 2)

/-- The up projection's buffer at a row and a channel. -/
theorem pay1_Xu (c : Dev nD) (r : Fin 4096) (o : Fin 256) :
    k0_pay1 (iblk m c 0 (pt 0)) (iblk m c 2 (pt 0)) (ix2 r o) = Xu m c ⟨r.val / 2048, by omega⟩ ⟨r.val % 2048, by omega⟩ o := by
  rw [pay1_apply]
  unfold Xu projU
  exact Finset.sum_congr rfl fun k _ => by rw [iblk0_apply, iblk2_apply]

/-- Its column sums. -/
theorem SU1_apply (c : Dev nD) (o : Fin 256) : SU1 m c (ix2 (0 : Fin 1) o) = ∑ b, ∑ n, Xu m c b n o := by
  unfold SU1
  rw [pay3_apply]
  simp only [pay1_Xu]
  exact sum_div_mod (p := 2) (q := 2048) rfl (by decide) fun b n => Xu m c b n o

/-- Its column sums of squares. -/
theorem SU2_apply (c : Dev nD) (o : Fin 256) : SU2 m c (ix2 (0 : Fin 1) o) = ∑ b, ∑ n, Xu m c b n o * Xu m c b n o := by
  unfold SU2
  rw [pay4_apply]
  simp only [pay1_Xu]
  exact sum_div_mod (p := 2) (q := 2048) rfl (by decide) fun b n => Xu m c b n o * Xu m c b n o

/-- The lateral projection by a row number. -/
def XlN (c : Dev nD) (o : Fin 256) (q : ℕ) : EReal :=
  Xl m c ⟨q / 8192 % 2, Nat.mod_lt _ (by decide)⟩ ⟨q % 8192, Nat.mod_lt _ (by decide)⟩ o

/-- A chunk of the lateral projection at a row and a channel. -/
theorem pay6_Xl (c : Dev nD) (t : Fin cfg0.N) (ht : t.val < 4) (r : Fin 4096) (o : Fin 256) :
    k0_pay6 (iblk m c 1 t) (iblk m c 3 t) (ix2 r o) = XlN m c o (4096 * t.val + r.val) := by
  rw [pay6_apply]
  unfold XlN Xl projL
  refine Finset.sum_congr rfl fun k _ => ?_
  rw [iblk1_apply m c t ht, iblk3_apply]
  have e : (4096 * t.val + r.val) / 8192 % 2 = (4096 * t.val + r.val) / 8192 := by omega
  simp only [e]

/-- The number of a gathering point. -/
theorem pt_lt (k : ℕ) (hk : k < 20) : (pt k).val = k := Nat.mod_eq_of_lt hk

/-- The lateral column sums. -/
theorem SL1_apply (c : Dev nD) (o : Fin 256) (k : ℕ) (hk : k ≤ 4) :
    SL1 m c k (ix2 (0 : Fin 1) o) = ∑ a : Fin k, ∑ r : Fin 4096, XlN m c o (4096 * a.val + r.val) := by
  induction k with
  | zero =>
    show zrow (ix2 (0 : Fin 1) o) = _
    unfold zrow
    pointwise
    simp
  | succ k ih =>
    show k0_pay8 (iblk m c 1 (pt k)) (iblk m c 3 (pt k)) (SL1 m c k) (ix2 (0 : Fin 1) o) = _
    rw [pay8_apply, ih (by omega), Fin.sum_univ_castSucc (n := k)]
    refine congrArg₂ (fun a b : EReal => a + b) rfl (Finset.sum_congr rfl fun r _ => ?_)
    have e := pt_lt k (by omega)
    rw [pay6_Xl m c (pt k) (by omega), e]
    rfl

/-- The lateral column sums of squares. -/
theorem SL2_apply (c : Dev nD) (o : Fin 256) (k : ℕ) (hk : k ≤ 4) :
    SL2 m c k (ix2 (0 : Fin 1) o) = ∑ a : Fin k, ∑ r : Fin 4096, XlN m c o (4096 * a.val + r.val) * XlN m c o (4096 * a.val + r.val) := by
  induction k with
  | zero =>
    show zrow (ix2 (0 : Fin 1) o) = _
    unfold zrow
    pointwise
    simp
  | succ k ih =>
    show k0_pay9 (iblk m c 1 (pt k)) (iblk m c 3 (pt k)) (SL2 m c k) (ix2 (0 : Fin 1) o) = _
    rw [pay9_apply, ih (by omega), Fin.sum_univ_castSucc (n := k)]
    refine congrArg₂ (fun a b : EReal => a + b) rfl (Finset.sum_congr rfl fun r _ => ?_)
    have e := pt_lt k (by omega)
    rw [pay6_Xl m c (pt k) (by omega), e]
    rfl

/-- A sum over the four chunks is the sum over batches and points. -/
theorem sum_rows (f : Fin 2 → Fin 8192 → EReal) :
    ∑ a : Fin 4, ∑ r : Fin 4096, f ⟨(4096 * a.val + r.val) / 8192 % 2, Nat.mod_lt _ (by decide)⟩ ⟨(4096 * a.val + r.val) % 8192, Nat.mod_lt _ (by decide)⟩
      = ∑ b, ∑ n, f b n := by
  rw [← sum_chunks (p := 4) (q := 4096) fun q => f ⟨q / 8192 % 2, Nat.mod_lt _ (by decide)⟩ ⟨q % 8192, Nat.mod_lt _ (by decide)⟩,
    ← sum_div_mod (p := 2) (q := 8192) (n := 4 * 4096) rfl (by decide) f]
  refine Finset.sum_congr rfl fun r _ => congrFun (congrArg f (Fin.ext ?_)) _
  have := r.isLt
  show r.val / 8192 % 2 = r.val / 8192
  omega

/-- The lateral column sums, all four chunks in. -/
theorem SL1_all (c : Dev nD) (o : Fin 256) : SL1 m c 4 (ix2 (0 : Fin 1) o) = ∑ b, ∑ n, Xl m c b n o := by
  rw [SL1_apply m c o 4 le_rfl]
  exact sum_rows fun b n => Xl m c b n o
/-- The lateral column sums of squares, all four chunks in. -/
theorem SL2_all (c : Dev nD) (o : Fin 256) : SL2 m c 4 (ix2 (0 : Fin 1) o) = ∑ b, ∑ n, Xl m c b n o * Xl m c b n o := by
  rw [SL2_apply m c o 4 le_rfl]
  exact sum_rows fun b n => Xl m c b n o * Xl m c b n o

/-- The activations at a row and a channel. -/
theorem HN_apply (c : Dev nD) (r : Fin 4096) (o : Fin 256) :
    HN m c (ix2 r o) = max (Xu m c ⟨r.val / 2048, by omega⟩ ⟨r.val % 2048, by omega⟩ o * scU m c o + shU m c o) 0 := by
  unfold HN
  rw [pay12_apply, pay16_apply, pay15_apply, SU1_apply, SU2_apply, GB_row0, GB_row1]
  unfold ZUP
  rw [pay2_apply, pay1_Xu]
  rfl

/-- The lateral scale. -/
theorem AN_apply (c : Dev nD) (o : Fin 256) : AN m c (ix2 (0 : Fin 1) o) = scL m c o := by
  unfold AN
  rw [pay10_apply, pay18_apply, SL1_all, SL2_all, GB_row2]
  rfl
/-- The lateral shift. -/
theorem BN_apply (c : Dev nD) (o : Fin 256) : BN m c (ix2 (0 : Fin 1) o) = shL m c o := by
  unfold BN
  rw [pay11_apply, pay18_apply, SL1_all, SL2_all, GB_row2, GB_row3]
  rfl
/-- The lateral projection's buffer at a row and a channel. -/
theorem ZL_apply (c : Dev nD) (q : Fin 16384) (o : Fin 256) : ZL m c (ix2 q o) = XlN m c o q.val := by
  unfold ZL zchunk
  have ht : (pt (q.val / 4096)).val = q.val / 4096 := pt_lt _ (by omega)
  refine (congrArg (k0_pay7 _ _) (show _ = ix2 (⟨q.val % 4096, Nat.mod_lt _ (by decide)⟩ : Fin 4096) o from funext fun a => ?_)).trans ?_
  · match a with
    | ⟨0, _⟩ => rfl
    | ⟨1, _⟩ => rfl
  · rw [pay7_apply]
    refine (pay6_Xl m c (pt (q.val / 4096)) (by omega) _ o).trans (congrArg (XlN m c o) ?_)
    rw [ht]
    exact Nat.div_add_mod _ _

/-- Where a block's batch of activations stands. -/
theorem off2_eq : ∀ t : Fin cfg0.N, 4 ≤ t.val → k0_off2 (grid0.coords t) = ![2048 * ((t.val - 4) / 8), 0] :=
  (by decide +kernel : ∀ t : Fin grid0.N, 4 ≤ t.val → k0_off2 (grid0.coords t) = ![2048 * ((t.val - 4) / 8), 0])
/-- Where a block's rows of the lateral projection stand. -/
theorem off3_eq : ∀ t : Fin cfg0.N, 4 ≤ t.val → k0_off3 (grid0.coords t) = ![1024 * (t.val - 4), 0] :=
  (by decide +kernel : ∀ t : Fin grid0.N, 4 ≤ t.val → k0_off3 (grid0.coords t) = ![1024 * (t.val - 4), 0])

/-- Rows read from a buffer at an offset. -/
theorem ld_rows {p q : ℕ} (v : Vec Ideal ⟨2, ![p, 256]⟩ .f32) (off : Fin 2 → ℕ) (k : ℕ) (he : off = ![k, 0]) (inb) (n : Fin q) (o : Fin 256) (hk : k + n.val < p) :
    View.ld v (Rect.unit (s := ⟨2, ![p, 256]⟩) off ![q, 256] inb) (ix2 n o) = v (ix2 ⟨k + n.val, hk⟩ o) := by
  subst he
  show v _ = v _
  refine congrArg v (funext fun a => ?_)
  match a with
  | ⟨0, _⟩ => exact Fin.ext (by show k + 1 * n.val = k + n.val; omega)
  | ⟨1, _⟩ => exact Fin.ext (by show 0 + 1 * o.val = o.val; omega)

/-- The block a point stores, at a row and a channel. -/
theorem yOf_apply (c : Dev nD) (t : Fin cfg0.N) (ht : 4 ≤ t.val) (r : Fin 1024) (o : Fin 256) :
    yOf m c t (ix3 (0 : Fin 1) r o) = outAt m c ⟨(t.val - 4) / 8, by have := t.isLt; have := (show cfg0.N = 20 from N_0); omega⟩
      ⟨1024 * ((t.val - 4) % 8) + r.val, by omega⟩ o := by
  have h20 : t.val < 20 := Nat.lt_of_lt_of_eq t.isLt N_0
  unfold yOf yblk
  rw [dif_pos ht, pay13_apply]
  unfold outAt
  have hd : ∀ x, k0_pay19 (iblk m c 5 t) (iblk m c 4 t) (ix2 r x) = dd m c ⟨(t.val - 4) / 8, by omega⟩ ⟨1024 * ((t.val - 4) % 8) + r.val, by omega⟩ x := by
    intro x
    rw [pay19_apply]
    simp only [iblk4_apply m c t ht, iblk5_apply m c t ht]
    rfl
  have hm : k0_pay20 (iblk m c 5 t) (iblk m c 4 t) (ix2 r (0 : Fin 1)) = rowMin (dd m c ⟨(t.val - 4) / 8, by omega⟩ ⟨1024 * ((t.val - 4) % 8) + r.val, by omega⟩) := by
    rw [pay20_apply]
    simp only [hd]
    rfl
  refine congrArg₂ (· + ·) (Finset.sum_congr rfl fun n _ => congrArg₂ (· * ·) ?_ ?_) ?_
  · rw [pay22_apply _ _ _ r n (fun x => pay21_apply _ _ r x)]
    simp only [hd, hm]
    rfl
  · rw [ld_rows (HN m c) _ _ (off2_eq t ht) _ n o (by omega), HN_apply]
    have e1 : (2048 * ((t.val - 4) / 8) + n.val) / 2048 = (t.val - 4) / 8 := by omega
    have e2 : (2048 * ((t.val - 4) / 8) + n.val) % 2048 = n.val := by omega
    simp only [e1, e2]
  · rw [ld_rows (ZL m c) _ _ (off3_eq t ht) _ r o (by omega), ZL_apply, AN_apply, BN_apply]
    unfold XlN
    have e1 : (1024 * (t.val - 4) + r.val) / 8192 % 2 = (t.val - 4) / 8 := by omega
    have e2 : (1024 * (t.val - 4) + r.val) % 8192 = 1024 * ((t.val - 4) % 8) + r.val := by omega
    simp only [e1, e2]

/-- The array the run leaves is the result array. -/
theorem out_arr (c : Dev nD) : (dats m 0 c).arrAt 7 cfg0.N = OUT m c := by
  refine (dats m 0 c).arrAt_eq_of_covers 7 _ (by decide +kernel) fun t hf y => ?_
  have ht : 4 ≤ t.val := by
    by_contra h
    exact Bool.noConfusion ((noflush0_7 t (by omega)).symm.trans hf)
  blk_simp
  rw [after0_7]
  obtain ⟨r, o, rfl⟩ : ∃ (r : Fin 1024) (o : Fin 256), y = ix3 (0 : Fin 1) r o :=
    ⟨y 1, y 2, funext fun a => by
      match a with
      | ⟨0, _⟩ => exact Subsingleton.elim (α := Fin 1) _ _
      | ⟨1, _⟩ => rfl
      | ⟨2, _⟩ => rfl⟩
  refine (yOf_apply m c t ht r o).trans ?_
  have hi := idx7 t ht
  have h20 : t.val < 20 := Nat.lt_of_lt_of_eq t.isLt N_0
  unfold OUT
  have e0 : (⟨(t.val - 4) / 8, by omega⟩ : Fin 2) = (win0_7.blk t).view.emb (ix3 (0 : Fin 1) r o) 0 :=
    Fin.ext (by show _ = win0_7.index t 0 * 1 + 1 * 0; rw [hi]; show (t.val - 4) / 8 = (t.val - 4) / 8 * 1 + 1 * 0; omega)
  have e1 : (⟨1024 * ((t.val - 4) % 8) + r.val, by omega⟩ : Fin 8192) = (win0_7.blk t).view.emb (ix3 (0 : Fin 1) r o) 1 :=
    Fin.ext (by
      show _ = win0_7.index t 1 * 1024 + 1 * r.val
      rw [hi]
      show 1024 * ((t.val - 4) % 8) + r.val = (t.val - 4) % 8 * 1024 + 1 * r.val
      omega)
  have e2 : o = (win0_7.blk t).view.emb (ix3 (0 : Fin 1) r o) 2 :=
    Fin.ext (by
      show _ = win0_7.index t 2 * 256 + 1 * o.val
      rw [hi]
      show o.val = 0 * 256 + 1 * o.val
      omega)
  exact congr (congr (congrArg (outAt m c) e0) e1) e2

end Cert.KernelIdeal.Gen

end
-- ==== Proof.Value.Sorted.lean ====
/- A top-k of a row read at an index, and what the order of its entries says. -/
module

public import Idealize.ShloMosaic.Lib.Pointwise
public import Idealize.ShloMosaic.Lib.SortFacts

@[expose] public section

set_option maxRecDepth 16384

noncomputable section

namespace Cert.Value

open Idealize.ShloMosaic Idealize.ShloMosaic.Tactic

/-- The place in a row of the entry that a descending stable sort puts at each position. -/
def ranked {n : Nat} (f : Fin n → EReal) : Fin n → Fin n :=
  sortedFrom fun k k' => FloatOps.cmpfTotal (F := Ideal) (φ := .f32) .gt (f k) (f k') == 1#1

/-- An index with its last coordinate replaced. -/
theorem along_ix3 {n0 n1 n2 : Nat} (a : Fin n0) (b : Fin n1) (q k : Fin n2) :
    (ix3 a b q : (⟨3, ![n0, n1, n2]⟩ : Shape).Idx).along 2 k = ix3 a b k := by
  funext i
  match i with
  | ⟨0, _⟩ => rfl
  | ⟨1, _⟩ => rfl
  | ⟨2, _⟩ => rfl

/-- The leading part of an array along its last axis, at an index. -/
theorem lead_ix3 {α : Type} {n0 n1 n2 k : Nat} (x : (⟨3, ![n0, n1, n2]⟩ : Shape).Idx → α) (h : (⟨3, ![n0, n1, n2]⟩ : Shape).Slices (fun _ => 0) ⟨3, ![n0, n1, k]⟩)
    (hk : k ≤ n2) (a : Fin n0) (b : Fin n1) (c : Fin k) :
    extractStridedSlice ⟨3, ![n0, n1, k]⟩ (fun _ => 0) x h (ix3 a b c) = x (ix3 a b (Fin.castLE hk c)) := by
  unfold extractStridedSlice
  congr 1
  funext i
  match i with
  | ⟨0, _⟩ => exact Fin.ext (Nat.zero_add _)
  | ⟨1, _⟩ => exact Fin.ext (Nat.zero_add _)
  | ⟨2, _⟩ => exact Fin.ext (Nat.zero_add _)

/-- A top-k along the last axis of a rank 3 array, its values. -/
theorem topK_fst {n0 n1 n2 k : Nat} (x : FVec Ideal ⟨3, ![n0, n1, n2]⟩ .f32) (h : (⟨3, ![n0, n1, n2]⟩ : Shape).Slices (fun _ => 0) ⟨3, ![n0, n1, k]⟩)
    (hk : k ≤ n2) (a : Fin n0) (b : Fin n1) (c : Fin k) :
    (Host.topK ⟨3, ![n0, n1, k]⟩ 2 (FloatOps.cmpfTotal (F := Ideal) (φ := .f32) .gt) x h).1 (ix3 a b c)
      = x (ix3 a b (ranked (fun n => x (ix3 a b n)) (Fin.castLE hk c))) := by
  unfold Host.topK
  dsimp only
  refine (lead_ix3 _ h hk a b c).trans ?_
  unfold Host.sort2
  rw [dif_pos (show 2 < 3 by decide)]
  have e : (fun n => x ((ix3 a b (Fin.castLE hk c)).along 2 n)) = fun n => x (ix3 a b n) := funext fun n => congrArg x (along_ix3 a b _ n)
  exact (congrArg x (along_ix3 a b (Fin.castLE hk c) _)).trans (congrArg (fun g => x (ix3 a b (ranked g (Fin.castLE hk c)))) e)

/-- A top-k along the last axis of a rank 3 array, its places. -/
theorem topK_snd {n0 n1 n2 k : Nat} (x : FVec Ideal ⟨3, ![n0, n1, n2]⟩ .f32) (h : (⟨3, ![n0, n1, n2]⟩ : Shape).Slices (fun _ => 0) ⟨3, ![n0, n1, k]⟩)
    (hk : k ≤ n2) (a : Fin n0) (b : Fin n1) (c : Fin k) :
    (Host.topK ⟨3, ![n0, n1, k]⟩ 2 (FloatOps.cmpfTotal (F := Ideal) (φ := .f32) .gt) x h).2 (ix3 a b c)
      = BitVec.ofNat 32 (ranked (fun n => x (ix3 a b n)) (Fin.castLE hk c)).val := by
  unfold Host.topK
  dsimp only
  refine (lead_ix3 _ h hk a b c).trans ?_
  unfold Host.sort2
  rw [dif_pos (show 2 < 3 by decide)]
  have e : (fun n => x ((ix3 a b (Fin.castLE hk c)).along 2 n)) = fun n => x (ix3 a b n) := funext fun n => congrArg x (along_ix3 a b _ n)
  exact congrArg (fun g => BitVec.ofNat 32 (ranked g (Fin.castLE hk c)).val) e

/-- The compare of the sort is the order of the extended reals. -/
theorem gt_iff (a b : EReal) : (FloatOps.cmpfTotal (F := Ideal) (φ := .f32) .gt a b == 1#1) = decide (b < a) := by
  simp only [show FloatOps.cmpfTotal (F := Ideal) (φ := .f32) .gt a b = Ideal.cmpTotal .gt a b from rfl]
  unfold Ideal.cmpTotal Ideal.cmp
  by_cases h : b < a <;> simp [h, CmpDirection.ordered]

/-- A later position of the descending sort holds no greater entry. -/
theorem ranked_le {n : Nat} (f : Fin n → EReal) (i j : Fin n) (h : i ≤ j) : f (ranked f j) ≤ f (ranked f i) := by
  rcases h.eq_or_lt with rfl | h
  · exact le_rfl
  unfold ranked
  simp only [gt_iff]
  have key := sortedFrom_noInversion (fun k k' => decide (f k' < f k)) (fun k k' => decide (f k' < f k))
    (fun a b h => by simpa using (of_decide_eq_true h).le) (fun _ _ h => h)
    (fun a b c h1 h2 => by simp only [decide_eq_false_iff_not, not_lt] at *; exact h1.trans h2) i j h
  simpa using key

/-- Every place of the row is at some position. -/
theorem ranked_surj {n : Nat} (f : Fin n → EReal) : Function.Surjective (ranked f) := sortedFrom_surjective _
/-- No place of the row is at two positions. -/
theorem ranked_inj {n : Nat} (f : Fin n → EReal) : Function.Injective (ranked f) := sortedFrom_injective _

end Cert.Value

end
-- ==== Proof.Value.Reference.lean ====
/- The reference's result, in stages, and each stage at an index. -/
module

public import Idealize.ShloMosaic.Lib.Pointwise
public import proofs.«01_k».proof.Proof.Gen.ReferenceIdeal.Run
public import proofs.«01_k».proof.Proof.Value.Sorted
public import proofs.«01_k».proof.Proof.Value.Spec

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Tactic Cert.Value

/-- The up projection. -/
def zUp (x : FVec Ideal S2x2048x512 .f32) (w : FVec Ideal S256x512 .f32) : FVec Ideal S2x2048x256 .f32 :=
  Host.dotGeneral dot_S2x2048x512_S256x512_S2x2048x256_2_1_01_0_n_n none x w
/-- The lateral projection. -/
def zLat (x : FVec Ideal S2x8192x256 .f32) (w : FVec Ideal S256x256 .f32) : FVec Ideal S2x8192x256 .f32 :=
  Host.dotGeneral dot_S2x8192x256_S256x256_S2x8192x256_2_1_01_0_n_n none x w
/-- The mean of each column of the up projection. -/
def muUp (z : FVec Ideal S2x2048x256 .f32) : FVec Ideal S256 .f32 :=
  Host.divf (Host.reduceAdd z (constant S_ .f32 0x00000000#32) reducesTo_S2x2048x256_S256_d0_1 h_S_) (broadcastInDim S256 ![] bcast_S_S256 (constant S_ .f32 0x45800000#32))
/-- The mean of each column of the lateral projection. -/
def muLat (z : FVec Ideal S2x8192x256 .f32) : FVec Ideal S256 .f32 :=
  Host.divf (Host.reduceAdd z (constant S_ .f32 0x00000000#32) reducesTo_S2x8192x256_S256_d0_1 h_S_) (broadcastInDim S256 ![] bcast_S_S256 (constant S_ .f32 0x46800000#32))
/-- A row of columns spread over the up projection. -/
def spUp (g : FVec Ideal S256 .f32) : FVec Ideal S2x2048x256 .f32 :=
  broadcastInDim S2x2048x256 ![0, 1, 2] bcast_S1x1x256_S2x2048x256_0_1_2 (broadcastInDim S1x1x256 ![2] bcast_S256_S1x1x256_2 g)
/-- A row of columns spread over the lateral projection. -/
def spLat (g : FVec Ideal S256 .f32) : FVec Ideal S2x8192x256 .f32 :=
  broadcastInDim S2x8192x256 ![0, 1, 2] bcast_S1x1x256_S2x8192x256_0_1_2 (broadcastInDim S1x1x256 ![2] bcast_S256_S1x1x256_2 g)
/-- The normalised, rectified up projection. -/
def hUp (z : FVec Ideal S2x2048x256 .f32) (g b : FVec Ideal S256 .f32) : FVec Ideal S2x2048x256 .f32 :=
  maximumf (addf (mulf (Host.divf (subf z (spUp (muUp z))) (spUp (Host.sqrt (addf (muUp (mulf (subf z (spUp (muUp z))) (subf z (spUp (muUp z)))))
    (broadcastInDim S256 ![] bcast_S_S256 (constant S_ .f32 0x3727C5AC#32)))))) (spUp g)) (spUp b)) (broadcastInDim S2x2048x256 ![] bcast_S_S2x2048x256 (constant S_ .f32 0x00000000#32))
/-- The normalised, rectified lateral projection. -/
def hLat (z : FVec Ideal S2x8192x256 .f32) (g b : FVec Ideal S256 .f32) : FVec Ideal S2x8192x256 .f32 :=
  maximumf (addf (mulf (Host.divf (subf z (spLat (muLat z))) (spLat (Host.sqrt (addf (muLat (mulf (subf z (spLat (muLat z))) (subf z (spLat (muLat z)))))
    (broadcastInDim S256 ![] bcast_S_S256 (constant S_ .f32 0x3727C5AC#32)))))) (spLat g)) (spLat b)) (broadcastInDim S2x8192x256 ![] bcast_S_S2x8192x256 (constant S_ .f32 0x00000000#32))
/-- The difference of every pair of positions. -/
def posDiff (po : FVec Ideal S2x8192x3 .f32) (p : FVec Ideal S2x2048x3 .f32) : FVec Ideal S2x8192x2048x3 .f32 :=
  subf (broadcastInDim S2x8192x2048x3 ![0, 1, 2, 3] bcast_S2x8192x1x3_S2x8192x2048x3_0_1_2_3 (broadcastInDim S2x8192x1x3 ![0, 1, 3] bcast_S2x8192x3_S2x8192x1x3_0_1_3 po))
    (broadcastInDim S2x8192x2048x3 ![0, 1, 2, 3] bcast_S2x1x2048x3_S2x8192x2048x3_0_1_2_3 (broadcastInDim S2x1x2048x3 ![0, 2, 3] bcast_S2x2048x3_S2x1x2048x3_0_2_3 p))
/-- The negated squared distances. -/
def negDist (po : FVec Ideal S2x8192x3 .f32) (p : FVec Ideal S2x2048x3 .f32) : FVec Ideal S2x8192x2048 .f32 :=
  Host.negf (Host.reduceAdd (mulf (posDiff po p) (posDiff po p)) (constant S_ .f32 0x00000000#32) reducesTo_S2x8192x2048x3_S2x8192x2048_d3 h_S_)
/-- The values of the three greatest. -/
def topV (d : FVec Ideal S2x8192x2048 .f32) : FVec Ideal S2x8192x3 .f32 := (Host.topK S2x8192x3 2 (FloatOps.cmpfTotal .gt) d sliceFits_S2x8192x2048_S2x8192x3).1
/-- The places of the three greatest. -/
def topI (d : FVec Ideal S2x8192x2048 .f32) : IVec S2x8192x3 32 := (Host.topK S2x8192x3 2 (FloatOps.cmpfTotal .gt) d sliceFits_S2x8192x2048_S2x8192x3).2
/-- The inverse distances. -/
def invD (v : FVec Ideal S2x8192x3 .f32) : FVec Ideal S2x8192x3 .f32 :=
  Host.divf (broadcastInDim S2x8192x3 ![] bcast_S_S2x8192x3 (constant S_ .f32 0x3F800000#32)) (maximumf (Host.negf v) (broadcastInDim S2x8192x3 ![] bcast_S_S2x8192x3 (constant S_ .f32 0x24E69595#32)))
/-- The batch coordinate of each neighbour. -/
def batchI : IVec S2x1x1 32 :=
  select (cmpi .slt (broadcastInDim S2x1x1 ![0] bcast_S2_S2x1x1_0 (iotaInDim S2 32 0)) (broadcastInDim S2x1x1 ![] bcast_S_S2x1x1 (constantI S_ 32 0#32))) (addi (broadcastInDim S2x1x1 ![0] bcast_S2_S2x1x1_0 (iotaInDim S2 32 0)) (broadcastInDim S2x1x1 ![] bcast_S_S2x1x1 (constantI S_ 32 2#32))) (broadcastInDim S2x1x1 ![0] bcast_S2_S2x1x1_0 (iotaInDim S2 32 0))
/-- The place of each neighbour, a negative one counted from the end. -/
def placeI (i : IVec S2x8192x3 32) : IVec S2x8192x3 32 :=
  select (cmpi .slt i (broadcastInDim S2x8192x3 ![] bcast_S_S2x8192x3 (constantI S_ 32 0#32))) (addi i (broadcastInDim S2x8192x3 ![] bcast_S_S2x8192x3 (constantI S_ 32 2048#32))) i
/-- The pair of coordinates at which each neighbour's row is taken. -/
def gatherI (i : IVec S2x8192x3 32) : IVec S2x8192x3x2 32 :=
  concatenate S2x8192x3x2 3 [⟨S2x8192x3x1, broadcastInDim S2x8192x3x1 ![0, 1, 2] bcast_S2x8192x3_S2x8192x3x1_0_1_2 (broadcastInDim S2x8192x3 ![0, 1, 2] bcast_S2x1x1_S2x8192x3_0_1_2 batchI)⟩,
    ⟨S2x8192x3x1, broadcastInDim S2x8192x3x1 ![0, 1, 2] bcast_S2x8192x3_S2x8192x3x1_0_1_2 (placeI i)⟩] concatenates_S2x8192x3x1_S2x8192x3x1_S2x8192x3x2_d3
/-- The neighbours' rows. -/
def rows (h : FVec Ideal S2x2048x256 .f32) (i : IVec S2x8192x3 32) : FVec Ideal S2x8192x3x256 .f32 :=
  Host.gather gather_S2x2048x256_S2x8192x3x2_S2x8192x3x256_3_01_n_n_01_3_11256 h (gatherI i)
/-- The weighted mean of the neighbours' rows. -/
def interp (w : FVec Ideal S2x8192x3 .f32) (q : FVec Ideal S2x8192x3x256 .f32) : FVec Ideal S2x8192x256 .f32 :=
  Host.divf (Host.reduceAdd (mulf q (broadcastInDim S2x8192x3x256 ![0, 1, 2, 3] bcast_S2x8192x3x1_S2x8192x3x256_0_1_2_3 (broadcastInDim S2x8192x3x1 ![0, 1, 2] bcast_S2x8192x3_S2x8192x3x1_0_1_2 w))) (constant S_ .f32 0x00000000#32) reducesTo_S2x8192x3x256_S2x8192x256_d2 h_S_)
    (broadcastInDim S2x8192x256 ![0, 1, 2] bcast_S2x8192x1_S2x8192x256_0_1_2 (broadcastInDim S2x8192x1 ![0, 1] bcast_S2x8192_S2x8192x1_0_1 (Host.reduceAdd w (constant S_ .f32 0x00000000#32) reducesTo_S2x8192x3_S2x8192_d2 h_S_)))

/-- The reference's first result in those stages. -/
theorem res_stages (m : (ℓ : Loc nD τ sig) → Buf (Elt Ideal) ℓ) (c : Dev nD) :
    res_out0 m c = addf (interp (invD (topV (negDist (m (c.tc.loc main_arg3)) (m (c.tc.loc main_arg1)))))
        (rows (hUp (zUp (m (c.tc.loc main_arg0)) (m (c.tc.loc main_arg4))) (m (c.tc.loc main_arg5)) (m (c.tc.loc main_arg6)))
          (topI (negDist (m (c.tc.loc main_arg3)) (m (c.tc.loc main_arg1))))))
      (hLat (zLat (m (c.tc.loc main_arg2)) (m (c.tc.loc main_arg7))) (m (c.tc.loc main_arg8)) (m (c.tc.loc main_arg9))) := rfl

/-- The source indices that drop to a result index, when the first two of three axes are reduced. -/
theorem fiber_a01 {n0 n1 n2 : Nat} (h : (⟨3, ![n0, n1, n2]⟩ : Shape).ReducesTo [0, 1] ⟨1, ![n2]⟩) (o : Fin n2) (i : (⟨3, ![n0, n1, n2]⟩ : Shape).Idx) :
    h.drop i = ix1 o ↔ ∃ k : Fin n0 × Fin n1, ix3 k.1 k.2 o = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A host sum over the first two of three axes, at an index. -/
theorem hostReduceAdd_a01 {n0 n1 n2 : Nat} (h : (⟨3, ![n0, n1, n2]⟩ : Shape).ReducesTo [0, 1] ⟨1, ![n2]⟩) (v : (⟨3, ![n0, n1, n2]⟩ : Shape).Idx → EReal) (init : EReal) (o : Fin n2) :
    Ideal.hostReduceAdd h v init (ix1 o) = init + ∑ b : Fin n0, ∑ n : Fin n1, v (ix3 b n o) := by
  refine congrArg (init + ·) ?_
  refine (Finset.sum_filter_eq_sum_of_fiber _ (fun k : Fin n0 × Fin n1 => ix3 k.1 k.2 o)
    (fun _ _ e => Prod.ext (congrFun e 0) (congrFun e 1)) (fiber_a01 h o) v).trans ?_
  simp only [Fintype.sum_prod_type]

/-- The up projection at an index. -/
theorem zUp_apply (x : FVec Ideal S2x2048x512 .f32) (w : FVec Ideal S256x512 .f32) (b : Fin 2) (n : Fin 2048) (o : Fin 256) :
    zUp x w (ix3 b n o) = ∑ k : Fin 512, x (ix3 b n k) * w (ix2 o k) := by
  pointwise [zUp]
/-- The lateral projection at an index. -/
theorem zLat_apply (x : FVec Ideal S2x8192x256 .f32) (w : FVec Ideal S256x256 .f32) (b : Fin 2) (n : Fin 8192) (o : Fin 256) :
    zLat x w (ix3 b n o) = ∑ k : Fin 256, x (ix3 b n k) * w (ix2 o k) := by
  pointwise [zLat]
/-- The mean of a column of the up projection. -/
theorem muUp_apply (z : FVec Ideal S2x2048x256 .f32) (o : Fin 256) :
    muUp z (ix1 o) = Ideal.div (∑ b : Fin 2, ∑ n : Fin 2048, z (ix3 b n o)) (Ideal.ofBits .f32 1166016512#32) := by
  pointwise [muUp]
  rw [hostReduceAdd_a01, zero_add]
/-- The mean of a column of the lateral projection. -/
theorem muLat_apply (z : FVec Ideal S2x8192x256 .f32) (o : Fin 256) :
    muLat z (ix1 o) = Ideal.div (∑ b : Fin 2, ∑ n : Fin 8192, z (ix3 b n o)) (Ideal.ofBits .f32 1182793728#32) := by
  pointwise [muLat]
  rw [hostReduceAdd_a01, zero_add]
/-- A spread row at an index. -/
theorem spUp_apply (z : FVec Ideal S256 .f32) (b : Fin 2) (n : Fin 2048) (o : Fin 256) : spUp z (ix3 b n o) = z (ix1 o) := by
  pointwise [spUp]
/-- A spread row at an index. -/
theorem spLat_apply (z : FVec Ideal S256 .f32) (b : Fin 2) (n : Fin 8192) (o : Fin 256) : spLat z (ix3 b n o) = z (ix1 o) := by
  pointwise [spLat]

/-- The normalised up projection at an index. -/
theorem hUp_apply (z : FVec Ideal S2x2048x256 .f32) (g be : FVec Ideal S256 .f32)  (b : Fin 2) (n : Fin 2048) (o : Fin 256) :
    hUp z g be (ix3 b n o) = bnRef (z (ix3 b n o)) (muUp z (ix1 o))
      (Ideal.div (∑ b : Fin 2, ∑ n : Fin 2048, (z (ix3 b n o) - muUp z (ix1 o)) * (z (ix3 b n o) - muUp z (ix1 o))) (Ideal.ofBits .f32 1166016512#32))
      (g (ix1 o)) (be (ix1 o)) := by
  pointwise [hUp]
  simp only [spUp_apply]
  pointwise
  rw [muUp_apply (mulf _ _)]
  pointwise
  simp only [spUp_apply]
  rfl
/-- The normalised lateral projection at an index. -/
theorem hLat_apply (z : FVec Ideal S2x8192x256 .f32) (g be : FVec Ideal S256 .f32)  (b : Fin 2) (n : Fin 8192) (o : Fin 256) :
    hLat z g be (ix3 b n o) = bnRef (z (ix3 b n o)) (muLat z (ix1 o))
      (Ideal.div (∑ b : Fin 2, ∑ n : Fin 8192, (z (ix3 b n o) - muLat z (ix1 o)) * (z (ix3 b n o) - muLat z (ix1 o))) (Ideal.ofBits .f32 1182793728#32))
      (g (ix1 o)) (be (ix1 o)) := by
  pointwise [hLat]
  simp only [spLat_apply]
  pointwise
  rw [muLat_apply (mulf _ _)]
  pointwise
  simp only [spLat_apply]
  rfl
/-- A negated squared distance. -/
theorem negDist_apply (po : FVec Ideal S2x8192x3 .f32) (p : FVec Ideal S2x2048x3 .f32) (b : Fin 2) (r : Fin 8192) (n : Fin 2048) :
    negDist po p (ix3 b r n) = -∑ a : Fin 3, (po (ix3 b r a) - p (ix3 b n a)) * (po (ix3 b r a) - p (ix3 b n a)) := by
  pointwise [negDist, posDiff]
/-- An inverse distance. -/
theorem invD_apply (v : FVec Ideal S2x8192x3 .f32) (b : Fin 2) (r : Fin 8192) (k : Fin 3) :
    invD v (ix3 b r k) = Ideal.div 1 (max (-v (ix3 b r k)) (Ideal.ofBits .f32 619091349#32)) := by
  pointwise [invD]
/-- A weighted mean of three rows. -/
theorem interp_apply (w : FVec Ideal S2x8192x3 .f32) (q : FVec Ideal S2x8192x3x256 .f32) (b : Fin 2) (r : Fin 8192) (o : Fin 256) :
    interp w q (ix3 b r o) = Ideal.div (∑ k : Fin 3, q (ix4 b r k o) * w (ix3 b r k)) (∑ k : Fin 3, w (ix3 b r k)) := by
  pointwise [interp]

/-- A row taken at a pair of coordinates, each clamped to its axis. -/
theorem gather_apply (h : FVec Ideal S2x2048x256 .f32) (i : IVec S2x8192x3x2 32) (b : Fin 2) (r : Fin 8192) (k : Fin 3) (o : Fin 256) :
    Host.gather gather_S2x2048x256_S2x8192x3x2_S2x8192x3x256_3_01_n_n_01_3_11256 h i (ix4 b r k o)
      = h (ix3 ⟨min (i (ix4 b r k (0 : Fin 2))).toInt.toNat 1, by omega⟩ ⟨min (i (ix4 b r k (1 : Fin 2))).toInt.toNat 2047, by omega⟩ o) := by
  unfold Host.gather
  congr 1
  have hs : ∀ e : Fin 2, gather_S2x2048x256_S2x8192x3x2_S2x8192x3x256_3_01_n_n_01_3_11256.siIdx (ix4 b r k o) e = ix4 b r k e := by
    intro e
    funext a
    match a with
    | ⟨0, _⟩ => rfl
    | ⟨1, _⟩ => rfl
    | ⟨2, _⟩ => rfl
    | ⟨3, _⟩ => rfl
  funext a
  apply Fin.ext
  match a with
  | ⟨0, _⟩ =>
    show min (i (gather_S2x2048x256_S2x8192x3x2_S2x8192x3x256_3_01_n_n_01_3_11256.siIdx (ix4 b r k o) (0 : Fin 2))).toInt.toNat 1 + 0 + 0 = _
    rw [hs]; rfl
  | ⟨1, _⟩ =>
    show min (i (gather_S2x2048x256_S2x8192x3x2_S2x8192x3x256_3_01_n_n_01_3_11256.siIdx (ix4 b r k o) (1 : Fin 2))).toInt.toNat 2047 + 0 + 0 = _
    rw [hs]; rfl
  | ⟨2, _⟩ =>
    show 0 + 0 + o.val = _
    simp

/-- The first coordinate of a neighbour is its batch. -/
theorem gatherI_0 (i : IVec S2x8192x3 32) (b : Fin 2) (r : Fin 8192) (k : Fin 3) : gatherI i (ix4 b r k (0 : Fin 2)) = BitVec.ofNat 32 b.val := by
  pointwise [gatherI, batchI]
  fin_cases b <;> rfl
/-- The second coordinate of a neighbour is its place. -/
theorem gatherI_1 (i : IVec S2x8192x3 32) (b : Fin 2) (r : Fin 8192) (k : Fin 3) (n : Fin 2048) (hi : i (ix3 b r k) = BitVec.ofNat 32 n.val) :
   gatherI i (ix4 b r k (1 : Fin 2)) = BitVec.ofNat 32 n.val := by
  pointwise [gatherI, placeI]
  rw [hi]
  have hn : IntOp.cmpi .slt (BitVec.ofNat 32 n.val) 0#32 = 0#1 := by
    unfold IntOp.cmpi
    have e : (BitVec.ofNat 32 n.val).slt 0#32 = false := by
      rw [BitVec.slt_eq_decide, BitVec.toInt_eq_toNat_of_lt (by simp; omega)]
      simp only [decide_eq_false_iff_not, not_lt]
      exact Int.natCast_nonneg _
    simp [e]
  rw [hn]
  rfl

/-- The row of a neighbour whose place is known. -/
theorem rows_apply (h : FVec Ideal S2x2048x256 .f32) (i : IVec S2x8192x3 32) (b : Fin 2) (r : Fin 8192) (k : Fin 3) (o : Fin 256) (n : Fin 2048)
    (hi : i (ix3 b r k) = BitVec.ofNat 32 n.val) : rows h i (ix4 b r k o) = h (ix3 b n o) := by
  unfold rows
  rw [gather_apply]
  have h0 : min (gatherI i (ix4 b r k (0 : Fin 2))).toInt.toNat 1 = b.val := by
    rw [gatherI_0]; fin_cases b <;> decide
  have h1 : min (gatherI i (ix4 b r k (1 : Fin 2))).toInt.toNat 2047 = n.val := by
    rw [gatherI_1 i b r k n hi, BitVec.toInt_eq_toNat_of_lt] <;> simp <;> omega
  congr 1
  funext a
  match a with
  | ⟨0, _⟩ => exact Fin.ext h0
  | ⟨1, _⟩ => exact Fin.ext h1
  | ⟨2, _⟩ => rfl

end Cert.ReferenceIdeal.Value

end
-- ==== Proof.Value.Math.lean ====
/- The two identities over the extended reals: a normalisation written as a scale and a shift, and a mean over three
   neighbours written as a sum over all points with the others' weights zero. -/
module

public import proofs.«01_k».proof.Proof.Value.Spec
public import proofs.«01_k».proof.Proof.Value.Sorted

@[expose] public section

noncomputable section

namespace Cert.Value

open Idealize.ShloMosaic

/-! ## Constants -/

/-- The number of rows of the up branch. -/
theorem n4096 : Ideal.ofBits .f32 0x45800000#32 = ((4096 : ℝ) : EReal) := by
  simp [Ideal.ofBits, Ideal.ieee]
  rw [← EReal.coe_mul]
  norm_num
/-- The number of rows of the lateral branch. -/
theorem n16384 : Ideal.ofBits .f32 0x46800000#32 = ((16384 : ℝ) : EReal) := by
  simp [Ideal.ofBits, Ideal.ieee]
  rw [← EReal.coe_mul]
  norm_num
/-- The small number added to a variance is a positive real. -/
theorem eps_pos : ∃ e : ℝ, 0 < e ∧ Ideal.ofBits .f32 0x3727C5AC#32 = (e : EReal) := by
  simp [Ideal.ofBits, Ideal.ieee]
  exact ⟨_, by positivity, (EReal.coe_mul _ _).symm⟩
/-- The least distance a weight is taken of is a positive real. -/
theorem tiny_pos : ∃ e : ℝ, 0 < e ∧ Ideal.ofBits .f32 0x24E69595#32 = (e : EReal) := by
  simp [Ideal.ofBits, Ideal.ieee]
  exact ⟨_, by positivity, (EReal.coe_mul _ _).symm⟩
/-- The mark of a masked distance is infinity. -/
theorem big_top : big = ⊤ := by
  unfold big
  simp [Ideal.ofBits, Ideal.ieee]

/-! ## The normalisation -/

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real over a nonzero real. -/
theorem div_real (x y : ℝ) (h : y ≠ 0) : Ideal.div (x : EReal) (y : EReal) = ((x / y : ℝ) : EReal) := by
  rw [Ideal.div_coe h, ← EReal.coe_mul, mul_one_div]

/-- The mean of the squares less the square of the mean is the mean of the squared deviations. -/
theorem var_eq {q : ℕ} (x : Fin 2 → Fin q → ℝ) (N : ℝ) (hN : N = 2 * q) (h0 : N ≠ 0) :
    (∑ b, ∑ r, x b r * x b r) / N - (∑ b, ∑ r, x b r) / N * ((∑ b, ∑ r, x b r) / N)
      = (∑ b, ∑ r, (x b r - (∑ b, ∑ r, x b r) / N) * (x b r - (∑ b, ∑ r, x b r) / N)) / N := by
  generalize hs : ∑ b, ∑ r, x b r = s
  have e : ∑ b, ∑ r, (x b r - s / N) * (x b r - s / N) = ∑ b, ∑ r, x b r * x b r - 2 * (s / N) * s + N * (s / N * (s / N)) := by
    have : ∀ b r, (x b r - s / N) * (x b r - s / N) = x b r * x b r - 2 * (s / N) * x b r + s / N * (s / N) := fun b r => by ring
    simp only [this, Finset.sum_add_distrib, Finset.sum_sub_distrib, ← Finset.mul_sum, hs, Finset.sum_const, Finset.card_univ, Fintype.card_fin, nsmul_eq_mul]
    rw [hN]; push_cast; ring
  rw [e]
  field_simp
  ring

/-- A real and an extended offset, the offset brought outside. -/
theorem shift_out (a b : ℝ) (be : EReal) : (a : EReal) + (be - (b : EReal)) = ((a - b : ℝ) : EReal) + be := by
  induction be with
  | bot => simp
  | top => rw [EReal.top_sub_coe, EReal.coe_add_top, EReal.coe_add_top]
  | coe y => rw [← EReal.coe_sub, ← EReal.coe_add, ← EReal.coe_add]; congr 1; ring

/-- THE NORMALISATION: on real entries with a real gain, the scale and the shift give the normalised entry. -/
theorem bn_eq {q : ℕ} (x : Fin 2 → Fin q → ℝ) (γ : ℝ) (be : EReal) (n : EReal) (N : ℝ) (hn : n = (N : EReal)) (hN : N = 2 * q) (h0 : 0 < N) (b : Fin 2) (r : Fin q) :
    bnKer n (fun b r => (x b r : EReal)) (γ : EReal) be b r
      = bnRef (x b r : EReal) (Ideal.div (∑ b, ∑ r, (x b r : EReal)) n)
          (Ideal.div (∑ b, ∑ r, ((x b r : EReal) - Ideal.div (∑ b, ∑ r, (x b r : EReal)) n) * ((x b r : EReal) - Ideal.div (∑ b, ∑ r, (x b r : EReal)) n)) n) (γ : EReal) be := by
  obtain ⟨e, he, hE⟩ := eps_pos
  have hn0 : N ≠ 0 := h0.ne'
  unfold bnKer bnScale bnShift bnRef
  rw [hE, hn]
  simp only [← EReal.coe_mul, ← coe_sum, div_real _ _ hn0, ← EReal.coe_sub]
  rw [var_eq x N hN hn0]
  generalize hv : (∑ b, ∑ r, (x b r - (∑ b, ∑ r, x b r) / N) * (x b r - (∑ b, ∑ r, x b r) / N)) / N = v
  have hv0 : 0 ≤ v := by
    rw [← hv]
    exact div_nonneg (Finset.sum_nonneg fun b _ => Finset.sum_nonneg fun r _ => mul_self_nonneg _) h0.le
  generalize (∑ b, ∑ r, x b r) / N = μ
  have hve : 0 < v + e := by linarith
  have hs : Real.sqrt (v + e) ≠ 0 := (Real.sqrt_pos.mpr hve).ne'
  rw [max_eq_left (by exact_mod_cast hv0 : (0 : EReal) ≤ (v : EReal)), ← EReal.coe_add, Ideal.rsqrt_coe, Ideal.sqrt_coe, if_neg hve.not_gt, if_neg hve.ne', if_neg hve.not_gt,
    ← EReal.coe_mul, ← EReal.coe_mul, ← EReal.coe_mul, shift_out, div_real _ _ hs, ← EReal.coe_mul]
  congr 3
  field_simp

/-! ## The three nearest -/

/-- A squared difference is not negative. -/
theorem sq_nonneg' (a : EReal) : 0 ≤ a * a := by
  induction a with
  | bot => simp
  | top => simp
  | coe y => rw [← EReal.coe_mul]; exact_mod_cast mul_self_nonneg y

/-- A squared distance is not negative. -/
theorem sqd_nonneg (a b c : EReal) : 0 ≤ sqd a b c := add_nonneg (add_nonneg (sq_nonneg' a) (sq_nonneg' b)) (sq_nonneg' c)

/-- The smallest of a row, from a place where it is attained. -/
theorem rowMin_eq (d : Fin 2048 → EReal) (k : Fin 2048) (h : ∀ x, d k ≤ d x) : rowMin d = d k := by
  unfold rowMin
  rw [big_top]
  refine le_antisymm ?_ ?_
  · exact (Finset.fold_min_le (d k)).mpr (Or.inr ⟨k, Finset.mem_univ _, le_rfl⟩)
  · exact (Finset.le_fold_min (d k)).mpr ⟨le_top, fun x _ => h x⟩

/-- The weight of a real distance is a positive real. -/
theorem wt_pos (v : EReal) (h0 : 0 ≤ v) (h1 : v < ⊤) : ∃ w : ℝ, 0 < w ∧ wt v = (w : EReal) := by
  obtain ⟨t, ht, hT⟩ := tiny_pos
  lift v to ℝ using ⟨h1.ne, (lt_of_lt_of_le EReal.bot_lt_zero h0).ne'⟩
  refine ⟨1 / max v t, by positivity, ?_⟩
  unfold wt
  rw [hT, ← EReal.coe_strictMono.monotone.map_max, ← EReal.coe_one, div_real _ _ (by positivity)]

/-- THE THREE NEAREST: a row of distances with three places in increasing order, every other place farther than the third;
    the sum over all places with the selected weights is the weighted mean of the three. -/
theorem knn_eq (d H : Fin 2048 → EReal) (s0 s1 s2 : Fin 2048) (h01 : d s0 < d s1) (h12 : d s1 < d s2)
    (hrest : ∀ x, x = s0 ∨ x = s1 ∨ x = s2 ∨ d s2 < d x) (hd : ∀ x, 0 ≤ d x) (ht : d s2 < ⊤) (hH : ∀ x, 0 ≤ H x) :
    ∑ n, knnW d n * H n = Ideal.div (H s0 * wt (d s0) + H s1 * wt (d s1) + H s2 * wt (d s2)) (wt (d s0) + wt (d s1) + wt (d s2)) := by
  have h02 := h01.trans h12
  have m0 : rowMin d = d s0 := rowMin_eq d s0 fun x => by
    rcases hrest x with rfl | rfl | rfl | h
    exacts [le_rfl, h01.le, h02.le, (h02.trans h).le]
  have k1 : mask d (fun _ => d s0) s1 = d s1 := if_neg h01.ne'
  have m1 : min1 d (fun _ => d s0) = d s1 := by
    refine (rowMin_eq _ s1 fun x => ?_).trans k1
    rw [k1]
    unfold mask
    split
    · rw [big_top]; exact le_top
    · rename_i hx
      rcases hrest x with rfl | rfl | rfl | h
      exacts [absurd rfl hx, le_rfl, h12.le, (h12.trans h).le]
  have k2 : mask (mask d fun _ => d s0) (fun _ => d s1) s2 = d s2 := by
    have e : mask d (fun _ => d s0) s2 = d s2 := if_neg h02.ne'
    show (if mask d (fun _ => d s0) s2 = d s1 then big else mask d (fun _ => d s0) s2) = d s2
    rw [e, if_neg h12.ne']
  have m2 : min2 d (fun _ => d s0) = d s2 := by
    unfold min2
    rw [m1]
    refine (rowMin_eq _ s2 fun x => ?_).trans k2
    rw [k2]
    show d s2 ≤ if (if d x = d s0 then big else d x) = d s1 then big else (if d x = d s0 then big else d x)
    rw [big_top]
    by_cases hy : d x = d s0
    · rw [if_pos hy]
      split <;> exact le_top
    · rw [if_neg hy]
      split
      · exact le_top
      · rename_i hx
        rcases hrest x with rfl | rfl | rfl | h
        exacts [absurd rfl hy, absurd rfl hx, le_rfl, h.le]
  obtain ⟨w0, p0, e0⟩ := wt_pos (d s0) (hd _) (h02.trans ht)
  obtain ⟨w1, p1, e1⟩ := wt_pos (d s1) (hd _) (h12.trans ht)
  obtain ⟨w2, p2, e2⟩ := wt_pos (d s2) (hd _) ht
  have n01 : s0 ≠ s1 := fun h => h01.ne (congrArg d h)
  have n12 : s1 ≠ s2 := fun h => h12.ne (congrArg d h)
  have n02 : s0 ≠ s2 := fun h => h02.ne (congrArg d h)
  have hw : ∀ n, knnW d n = selW d (d s0) (d s1) (d s2) n := fun n => by unfold knnW; rw [m0, m1, m2]
  have z : ∀ n, n ≠ s0 → n ≠ s1 → n ≠ s2 → knnW d n * H n = 0 := fun n a b c => by
    have hn : d s2 < d n := by
      rcases hrest n with h | h | h | h
      exacts [absurd h a, absurd h b, absurd h c, h]
    rw [hw]
    unfold selW
    rw [if_neg (h02.trans hn).ne', if_neg (h12.trans hn).ne', if_neg hn.ne', zero_mul]
  have hsum : ∑ n, knnW d n * H n = knnW d s0 * H s0 + knnW d s1 * H s1 + knnW d s2 * H s2 := by
    have hsub : ∑ n ∈ {s0, s1, s2}, knnW d n * H n = ∑ n, knnW d n * H n :=
      Finset.sum_subset (Finset.subset_univ _) fun n _ hn => by
        simp only [Finset.mem_insert, Finset.mem_singleton, not_or] at hn
        exact z n hn.1 hn.2.1 hn.2.2
    rw [← hsub, Finset.sum_insert (by simp [n01, n02]), Finset.sum_insert (by simp [n12]), Finset.sum_singleton, add_assoc]
  have s0e : knnW d s0 = Ideal.div (wt (d s0)) (wt (d s0) + wt (d s1) + wt (d s2)) := by rw [hw]; exact if_pos rfl
  have s1e : knnW d s1 = Ideal.div (wt (d s1)) (wt (d s0) + wt (d s1) + wt (d s2)) := by
    rw [hw]; unfold selW; rw [if_neg h01.ne', if_pos rfl]
  have s2e : knnW d s2 = Ideal.div (wt (d s2)) (wt (d s0) + wt (d s1) + wt (d s2)) := by
    rw [hw]; unfold selW; rw [if_neg h02.ne', if_neg h12.ne', if_pos rfl]
  rw [hsum, s0e, s1e, s2e, e0, e1, e2, ← EReal.coe_add, ← EReal.coe_add]
  have hws : w0 + w1 + w2 ≠ 0 := by positivity
  simp only [Ideal.div_coe hws]
  have c0 : (0 : EReal) ≤ ((1 / (w0 + w1 + w2) : ℝ) : EReal) := by exact_mod_cast (by positivity : (0 : ℝ) ≤ 1 / (w0 + w1 + w2))
  have q0 : (0 : EReal) ≤ H s0 * (w0 : EReal) := mul_nonneg (hH _) (by exact_mod_cast p0.le)
  have q1 : (0 : EReal) ≤ H s1 * (w1 : EReal) := mul_nonneg (hH _) (by exact_mod_cast p1.le)
  have q2 : (0 : EReal) ≤ H s2 * (w2 : EReal) := mul_nonneg (hH _) (by exact_mod_cast p2.le)
  rw [EReal.right_distrib_of_nonneg (add_nonneg q0 q1) q2, EReal.right_distrib_of_nonneg q0 q1]
  generalize ((1 / (w0 + w1 + w2) : ℝ) : EReal) = cc
  refine congrArg₂ (· + ·) (congrArg₂ (· + ·) ?_ ?_) ?_ <;> rw [mul_comm (H _) _] <;> exact mul_right_comm _ _ _

end Cert.Value

end
-- ==== Proof.Value.Pre.lean ====
/- What the precondition says of the arguments, element by element. -/
module

public import Idealize.ShloMosaic.Lib.Pointwise
public import Idealize.ShloMosaic.Lib.Decide
public import proofs.«01_k».proof.Pre_finite_and_three_nearest_untied
public import proofs.«01_k».proof.Proof.Value.Math

@[expose] public section

set_option maxRecDepth 16384

noncomputable section

namespace Cert.Pre_finite_and_three_nearest_untied

open Idealize.ShloMosaic Cert.Value

/-- The shape relations the precondition's operations take. -/
theorem facts : Facts where
  bcast_S2x8192x3_S2x8192x1x3_0_1_3 := by decide
  bcast_S2x2048x3_S2x1x2048x3_0_2_3 := by decide
  bcast_S2x8192x1x3_S2x8192x2048x3_0_1_2_3 := by decide
  bcast_S2x1x2048x3_S2x8192x2048x3_0_1_2_3 := by decide
  reducesTo_S2x8192x2048x3_S2x8192x2048_d3 := by decide
  h_S_ := by decide
  sliceFits_S2x8192x2048_S2x8192x4 := by decide
  bcast_S_S2x2048x512 := by decide
  bcast_S_S2x8192x256 := by decide
  bcast_S_S256x512 := by decide
  bcast_S_S256x256 := by decide
  bcast_S_S256 := by decide
  slices_S2x8192x4_S2x8192x3_0_0_1 := by decide
  slices_S2x8192x4_S2x8192x3_0_0_0 := by decide

/-- A comparison that holds is an inequality. -/
theorem lt_of_olt (a b : EReal) (h : FloatOps.cmpf (F := Ideal) (φ := .f32) .olt a b = 1#1) : a < b := by
  have e : FloatOps.cmpf (F := Ideal) (φ := .f32) .olt a b = Ideal.cmp .olt a b := rfl
  rw [e] at h
  unfold Ideal.cmp at h
  by_contra hn
  simp [hn] at h

/-- An entry whose absolute value is below infinity is a real. -/
theorem real_of_abs (x : EReal) (h : FloatOps.cmpf (F := Ideal) (φ := .f32) .olt (FloatOps.absf (F := Ideal) (φ := .f32) x) (Ideal.ofBits .f32 0x7F800000#32) = 1#1) :
    ∃ r : ℝ, x = (r : EReal) := by
  have h := lt_of_olt _ _ h
  rw [show Ideal.ofBits .f32 0x7F800000#32 = ⊤ from big_top] at h
  have h : max x (-x) < ⊤ := h
  induction x with
  | bot => simp at h
  | top => simp at h
  | coe y => exact ⟨y, rfl⟩

variable [Facts]
open Facts

section
variable (a0 : FVec Ideal S2x2048x512 .f32) (a1 : FVec Ideal S2x2048x3 .f32) (a2 : FVec Ideal S2x8192x256 .f32) (a3 : FVec Ideal S2x8192x3 .f32)
  (a4 : FVec Ideal S256x512 .f32) (a5 a6 : FVec Ideal S256 .f32) (a7 : FVec Ideal S256x256 .f32) (a8 a9 : FVec Ideal S256 .f32)

/-- The coarse features are real. -/
theorem real_a0 (h : (fn a0 a1 a2 a3 a4 a5 a6 a7 a8 a9).1 = fun _ => 1#1) (b : Fin 2) (n : Fin 2048) (k : Fin 512) : ∃ r : ℝ, a0 (ix3 b n k) = (r : EReal) :=
  real_of_abs _ (congrFun h (ix3 b n k))
/-- The fine features are real. -/
theorem real_a2 (h : (fn a0 a1 a2 a3 a4 a5 a6 a7 a8 a9).2.1 = fun _ => 1#1) (b : Fin 2) (n : Fin 8192) (k : Fin 256) : ∃ r : ℝ, a2 (ix3 b n k) = (r : EReal) :=
  real_of_abs _ (congrFun h (ix3 b n k))
/-- The weights of the up projection are real. -/
theorem real_a4 (h : (fn a0 a1 a2 a3 a4 a5 a6 a7 a8 a9).2.2.1 = fun _ => 1#1) (o : Fin 256) (k : Fin 512) : ∃ r : ℝ, a4 (ix2 o k) = (r : EReal) :=
  real_of_abs _ (congrFun h (ix2 o k))
/-- The weights of the lateral projection are real. -/
theorem real_a7 (h : (fn a0 a1 a2 a3 a4 a5 a6 a7 a8 a9).2.2.2.1 = fun _ => 1#1) (o : Fin 256) (k : Fin 256) : ∃ r : ℝ, a7 (ix2 o k) = (r : EReal) :=
  real_of_abs _ (congrFun h (ix2 o k))
/-- The gains of the up branch are real. -/
theorem real_a5 (h : (fn a0 a1 a2 a3 a4 a5 a6 a7 a8 a9).2.2.2.2.1 = fun _ => 1#1) (o : Fin 256) : ∃ r : ℝ, a5 (ix1 o) = (r : EReal) :=
  real_of_abs _ (congrFun h (ix1 o))
/-- The gains of the lateral branch are real. -/
theorem real_a8 (h : (fn a0 a1 a2 a3 a4 a5 a6 a7 a8 a9).2.2.2.2.2.1 = fun _ => 1#1) (o : Fin 256) : ∃ r : ℝ, a8 (ix1 o) = (r : EReal) :=
  real_of_abs _ (congrFun h (ix1 o))

/-- The negated squared distances the precondition ranks. -/
def negD : FVec Ideal S2x8192x2048 .f32 :=
  Host.negf (Host.reduceAdd (mulf (subf (broadcastInDim S2x8192x2048x3 ![0, 1, 2, 3] bcast_S2x8192x1x3_S2x8192x2048x3_0_1_2_3 (broadcastInDim S2x8192x1x3 ![0, 1, 3] bcast_S2x8192x3_S2x8192x1x3_0_1_3 a3))
      (broadcastInDim S2x8192x2048x3 ![0, 1, 2, 3] bcast_S2x1x2048x3_S2x8192x2048x3_0_1_2_3 (broadcastInDim S2x1x2048x3 ![0, 2, 3] bcast_S2x2048x3_S2x1x2048x3_0_2_3 a1)))
    (subf (broadcastInDim S2x8192x2048x3 ![0, 1, 2, 3] bcast_S2x8192x1x3_S2x8192x2048x3_0_1_2_3 (broadcastInDim S2x8192x1x3 ![0, 1, 3] bcast_S2x8192x3_S2x8192x1x3_0_1_3 a3))
      (broadcastInDim S2x8192x2048x3 ![0, 1, 2, 3] bcast_S2x1x2048x3_S2x8192x2048x3_0_1_2_3 (broadcastInDim S2x1x2048x3 ![0, 2, 3] bcast_S2x2048x3_S2x1x2048x3_0_2_3 a1))))
    (constant S_ .f32 0x00000000#32) reducesTo_S2x8192x2048x3_S2x8192x2048_d3 h_S_)

/-- A ranked entry is a negated squared distance. -/
theorem negD_apply (b : Fin 2) (r : Fin 8192) (n : Fin 2048) : negD a1 a3 (ix3 b r n) = -dist2 a3 a1 b r n := by
  pointwise [negD]
  rw [Fin.sum_univ_three]
  rfl

/-- Among the four nearest of a fine point, each is strictly nearer than the next. -/
theorem strict (h : (fn a0 a1 a2 a3 a4 a5 a6 a7 a8 a9).2.2.2.2.2.2 = fun _ => 1#1) (b : Fin 2) (r : Fin 8192) (k : Fin 3) :
    dist2 a3 a1 b r (ranked (fun n => -dist2 a3 a1 b r n) ⟨k.val, by omega⟩) < dist2 a3 a1 b r (ranked (fun n => -dist2 a3 a1 b r n) ⟨k.val + 1, by omega⟩) := by
  have h := congrFun h (ix3 b r k)
  change cmpf .olt (extractStridedSlice S2x8192x3 ![0, 0, 1] (Host.topK S2x8192x4 2 (FloatOps.cmpfTotal .gt) (negD a1 a3) sliceFits_S2x8192x2048_S2x8192x4).1 slices_S2x8192x4_S2x8192x3_0_0_1)
    (extractStridedSlice S2x8192x3 ![0, 0, 0] (Host.topK S2x8192x4 2 (FloatOps.cmpfTotal .gt) (negD a1 a3) sliceFits_S2x8192x2048_S2x8192x4).1 slices_S2x8192x4_S2x8192x3_0_0_0) (ix3 b r k) = 1#1 at h
  have e1 : extractStridedSlice S2x8192x3 ![0, 0, 1] (Host.topK S2x8192x4 2 (FloatOps.cmpfTotal .gt) (negD a1 a3) sliceFits_S2x8192x2048_S2x8192x4).1 slices_S2x8192x4_S2x8192x3_0_0_1 (ix3 b r k)
      = (Host.topK S2x8192x4 2 (FloatOps.cmpfTotal .gt) (negD a1 a3) sliceFits_S2x8192x2048_S2x8192x4).1 (ix3 b r (⟨k.val + 1, by omega⟩ : Fin 4)) := by
    unfold extractStridedSlice
    refine congrArg _ (funext fun a => ?_)
    match a with
    | ⟨0, _⟩ => exact Fin.ext (by simp)
    | ⟨1, _⟩ => exact Fin.ext (by simp)
    | ⟨2, _⟩ => exact Fin.ext (by simp; omega)
  have e0 : extractStridedSlice S2x8192x3 ![0, 0, 0] (Host.topK S2x8192x4 2 (FloatOps.cmpfTotal .gt) (negD a1 a3) sliceFits_S2x8192x2048_S2x8192x4).1 slices_S2x8192x4_S2x8192x3_0_0_0 (ix3 b r k)
      = (Host.topK S2x8192x4 2 (FloatOps.cmpfTotal .gt) (negD a1 a3) sliceFits_S2x8192x2048_S2x8192x4).1 (ix3 b r (⟨k.val, by omega⟩ : Fin 4)) := by
    unfold extractStridedSlice
    refine congrArg _ (funext fun a => ?_)
    match a with
    | ⟨0, _⟩ => exact Fin.ext (by simp)
    | ⟨1, _⟩ => exact Fin.ext (by simp)
    | ⟨2, _⟩ => exact Fin.ext (by simp)
  unfold cmpf at h
  rw [e0, e1, topK_fst _ _ (by decide), topK_fst _ _ (by decide)] at h
  simp only [negD_apply] at h
  exact EReal.neg_lt_neg_iff.mp (lt_of_olt _ _ h)

end

end Cert.Pre_finite_and_three_nearest_untied

end
-- ==== Proof.Value.Result.lean ====
/- The two results are one: under the precondition the reference's result at an index is the kernel's. -/
module

public import proofs.«01_k».proof.Defs
public import proofs.«01_k».proof.Proof.Value.Kernel
public import proofs.«01_k».proof.Proof.Value.Reference
public import proofs.«01_k».proof.Proof.Value.Math
public import proofs.«01_k».proof.Proof.Value.Pre

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Tactic Cert.Value

/-- A sum of products of reals is a real. -/
theorem real_dot {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  simp only [ha, hb, coe_sum, EReal.coe_mul]

/-- A rectified entry is not negative. -/
theorem bnRef_nonneg (z mu var g b : EReal) : 0 ≤ bnRef z mu var g b := le_max_right _ _

section
variable (x : FVec Ideal S2x2048x512 .f32) (p : FVec Ideal S2x2048x3 .f32) (xo : FVec Ideal S2x8192x256 .f32) (po : FVec Ideal S2x8192x3 .f32)
  (wu : FVec Ideal S256x512 .f32) (gu bu : FVec Ideal S256 .f32) (wl : FVec Ideal S256x256 .f32) (gl bl : FVec Ideal S256 .f32)

/-- The up branch: on real arguments the normalised entry is the scaled and shifted one. -/
theorem hUp_eq (hx : ∀ b n k, ∃ r : ℝ, x (ix3 b n k) = (r : EReal)) (hw : ∀ o k, ∃ r : ℝ, wu (ix2 o k) = (r : EReal)) (hg : ∀ o, ∃ r : ℝ, gu (ix1 o) = (r : EReal))
    (b : Fin 2) (n : Fin 2048) (o : Fin 256) :
    hUp (zUp x wu) gu bu (ix3 b n o) = bnKer (Ideal.ofBits .f32 0x45800000#32) (fun b n => projU x wu b n o) (gu (ix1 o)) (bu (ix1 o)) b n := by
  have hz : ∀ b n, ∃ r : ℝ, projU x wu b n o = (r : EReal) := fun b n => real_dot _ _ (hx b n) (hw o)
  choose X hX using hz
  obtain ⟨γ, hγ⟩ := hg o
  rw [hUp_apply]
  simp only [muUp_apply, zUp_apply]
  change bnRef (projU x wu b n o) (Ideal.div (∑ b, ∑ n, projU x wu b n o) _) (Ideal.div (∑ b, ∑ n, (projU x wu b n o - Ideal.div (∑ b, ∑ n, projU x wu b n o) _) * (projU x wu b n o - Ideal.div (∑ b, ∑ n, projU x wu b n o) _)) _) _ _ = _
  simp only [hX, hγ]
  exact (bn_eq X γ _ _ 4096 n4096 (by norm_num) (by norm_num) b n).symm

/-- The lateral branch: on real arguments the normalised entry is the scaled and shifted one. -/
theorem hLat_eq (hx : ∀ b n k, ∃ r : ℝ, xo (ix3 b n k) = (r : EReal)) (hw : ∀ o k, ∃ r : ℝ, wl (ix2 o k) = (r : EReal)) (hg : ∀ o, ∃ r : ℝ, gl (ix1 o) = (r : EReal))
    (b : Fin 2) (n : Fin 8192) (o : Fin 256) :
    hLat (zLat xo wl) gl bl (ix3 b n o) = bnKer (Ideal.ofBits .f32 0x46800000#32) (fun b n => projL xo wl b n o) (gl (ix1 o)) (bl (ix1 o)) b n := by
  have hz : ∀ b n, ∃ r : ℝ, projL xo wl b n o = (r : EReal) := fun b n => real_dot _ _ (hx b n) (hw o)
  choose X hX using hz
  obtain ⟨γ, hγ⟩ := hg o
  rw [hLat_apply]
  simp only [muLat_apply, zLat_apply]
  change bnRef (projL xo wl b n o) (Ideal.div (∑ b, ∑ n, projL xo wl b n o) _) (Ideal.div (∑ b, ∑ n, (projL xo wl b n o - Ideal.div (∑ b, ∑ n, projL xo wl b n o) _) * (projL xo wl b n o - Ideal.div (∑ b, ∑ n, projL xo wl b n o) _)) _) _ _ = _
  simp only [hX, hγ]
  exact (bn_eq X γ _ _ 16384 n16384 (by norm_num) (by norm_num) b n).symm

/-- A negated squared distance, by the distance. -/
theorem negDist_eq (b : Fin 2) (r : Fin 8192) (n : Fin 2048) : negDist po p (ix3 b r n) = -dist2 po p b r n := by
  rw [negDist_apply, Fin.sum_univ_three]
  rfl

/-- The interpolated entry: when the four nearest are strictly ordered, the weighted mean of the three nearest rows is the
    sum over all coarse points with the selected weights. -/
theorem interp_eq (h : FVec Ideal S2x2048x256 .f32) (hh : ∀ b n o, 0 ≤ h (ix3 b n o)) (b : Fin 2) (r : Fin 8192) (o : Fin 256)
    (hs : ∀ k : Fin 3, dist2 po p b r (ranked (fun n => -dist2 po p b r n) ⟨k.val, by omega⟩) < dist2 po p b r (ranked (fun n => -dist2 po p b r n) ⟨k.val + 1, by omega⟩)) :
    interp (invD (topV (negDist po p))) (rows h (topI (negDist po p))) (ix3 b r o) = ∑ n, knnW (dist2 po p b r) n * h (ix3 b n o) := by
  have hq : ∀ k : Fin 3, rows h (topI (negDist po p)) (ix4 b r k o) = h (ix3 b (ranked (fun n => -dist2 po p b r n) ⟨k.val, by omega⟩) o) := fun k => by
    refine rows_apply h _ b r k o _ ?_
    unfold topI
    rw [topK_snd _ _ (by decide)]
    simp only [negDist_eq]
    rfl
  have hv : ∀ k : Fin 3, invD (topV (negDist po p)) (ix3 b r k) = wt (dist2 po p b r (ranked (fun n => -dist2 po p b r n) ⟨k.val, by omega⟩)) := fun k => by
    rw [invD_apply]
    unfold topV
    rw [topK_fst _ _ (by decide)]
    simp only [negDist_eq, neg_neg]
    rfl
  rw [interp_apply]
  simp only [hq, hv, Fin.sum_univ_three]
  refine (knn_eq (dist2 po p b r) (fun n => h (ix3 b n o)) _ _ _ (hs 0) (hs 1) ?_ (fun x => sqd_nonneg _ _ _) (lt_of_lt_of_le (hs 2) le_top) (fun x => hh b x o)).symm
  intro y
  obtain ⟨j, rfl⟩ := ranked_surj (fun n => -dist2 po p b r n) y
  by_cases h3 : 3 ≤ j.val
  · refine Or.inr (Or.inr (Or.inr (lt_of_lt_of_le (hs 2) ?_)))
    exact EReal.neg_le_neg_iff.mp (ranked_le (fun n => -dist2 po p b r n) ⟨3, by omega⟩ j h3)
  · rcases (by omega : j.val = 0 ∨ j.val = 1 ∨ j.val = 2) with e | e | e
    · exact Or.inl (congrArg _ (Fin.ext e))
    · exact Or.inr (Or.inl (congrArg _ (Fin.ext e)))
    · exact Or.inr (Or.inr (Or.inl (congrArg _ (Fin.ext e))))

end

/-- THE RESULT: under the precondition the reference's stages of the kernel's arguments are the kernel's result array. -/
theorem stages_eq (m : (ℓ : Loc Cert.KernelIdeal.nD Cert.KernelIdeal.τ Cert.KernelIdeal.sig) → Buf (Elt Ideal) ℓ)
    (hpre : Cert.Pre_KernelIdeal_finite_and_three_nearest_untied (hPre_finite_and_three_nearest_untied := Cert.Pre_finite_and_three_nearest_untied.facts) m) (c : Dev Cert.KernelIdeal.nD) :
    addf (interp (invD (topV (negDist (m (c.tc.loc Cert.KernelIdeal.main_arg3)) (m (c.tc.loc Cert.KernelIdeal.main_arg1)))))
        (rows (hUp (zUp (m (c.tc.loc Cert.KernelIdeal.main_arg0)) (m (c.tc.loc Cert.KernelIdeal.main_arg4))) (m (c.tc.loc Cert.KernelIdeal.main_arg5)) (m (c.tc.loc Cert.KernelIdeal.main_arg6)))
          (topI (negDist (m (c.tc.loc Cert.KernelIdeal.main_arg3)) (m (c.tc.loc Cert.KernelIdeal.main_arg1))))))
      (hLat (zLat (m (c.tc.loc Cert.KernelIdeal.main_arg2)) (m (c.tc.loc Cert.KernelIdeal.main_arg7))) (m (c.tc.loc Cert.KernelIdeal.main_arg8)) (m (c.tc.loc Cert.KernelIdeal.main_arg9)))
      = Cert.KernelIdeal.Gen.OUT m c := by
  haveI := Cert.Pre_finite_and_three_nearest_untied.facts
  obtain ⟨p0, p2, p4, p7, p5, p8, ps⟩ := hpre c
  funext y
  obtain ⟨b, r, o, rfl⟩ : ∃ (b : Fin 2) (r : Fin 8192) (o : Fin 256), y = ix3 b r o :=
    ⟨y 0, y 1, y 2, funext fun a => by
      match a with
      | ⟨0, _⟩ => rfl
      | ⟨1, _⟩ => rfl
      | ⟨2, _⟩ => rfl⟩
  have hu := hUp_eq (m (c.tc.loc Cert.KernelIdeal.main_arg0)) (m (c.tc.loc Cert.KernelIdeal.main_arg4)) (m (c.tc.loc Cert.KernelIdeal.main_arg5)) (m (c.tc.loc Cert.KernelIdeal.main_arg6))
    (Cert.Pre_finite_and_three_nearest_untied.real_a0 _ _ _ _ _ _ _ _ _ _ p0) (Cert.Pre_finite_and_three_nearest_untied.real_a4 _ _ _ _ _ _ _ _ _ _ p4)
    (Cert.Pre_finite_and_three_nearest_untied.real_a5 _ _ _ _ _ _ _ _ _ _ p5)
  have hl := hLat_eq (m (c.tc.loc Cert.KernelIdeal.main_arg2)) (m (c.tc.loc Cert.KernelIdeal.main_arg7)) (m (c.tc.loc Cert.KernelIdeal.main_arg8)) (m (c.tc.loc Cert.KernelIdeal.main_arg9))
    (Cert.Pre_finite_and_three_nearest_untied.real_a2 _ _ _ _ _ _ _ _ _ _ p2) (Cert.Pre_finite_and_three_nearest_untied.real_a7 _ _ _ _ _ _ _ _ _ _ p7)
    (Cert.Pre_finite_and_three_nearest_untied.real_a8 _ _ _ _ _ _ _ _ _ _ p8) b r o
  have hi := interp_eq (m (c.tc.loc Cert.KernelIdeal.main_arg1)) (m (c.tc.loc Cert.KernelIdeal.main_arg3))
    (hUp (zUp (m (c.tc.loc Cert.KernelIdeal.main_arg0)) (m (c.tc.loc Cert.KernelIdeal.main_arg4))) (m (c.tc.loc Cert.KernelIdeal.main_arg5)) (m (c.tc.loc Cert.KernelIdeal.main_arg6)))
    (fun b n o => by rw [hUp_apply]; exact bnRef_nonneg _ _ _ _ _) b r o
    (Cert.Pre_finite_and_three_nearest_untied.strict _ _ _ _ _ _ _ _ _ _ ps b r)
  refine (congrArg₂ (fun a b : EReal => a + b) hi hl).trans ?_
  simp only [hu]
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealRun.Frame
public import proofs.«01_k».proof.Proof.Gen.ReferenceIdeal
public import proofs.«01_k».proof.Proof.Gen.ReferenceIdeal.Run
public import proofs.«01_k».proof.Proof.Value.Result
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every execution of the reference terminates with its arguments unchanged and every counter at zero. -/
theorem reference_frame : Cert.quiescent_ReferenceIdeal (hReferenceIdeal := Cert.ReferenceIdeal.Gen.facts) := by
  intro m g _
  run_from Cert.ReferenceIdeal.Value.run m g
  · exact fun _ => ⟨trivial, trivial, trivial, trivial, trivial, trivial, trivial, trivial, trivial, trivial⟩
  · exact sem_eq_zero_of_no_sems (by decide) _

/-- THE VALUE: over the extended reals the kernel's two results are the reference's, given real features, weights and gains and four
    strictly ordered nearest points. -/
theorem algebraic : Cert.algebraic_KernelIdeal_ReferenceIdeal_pre_finite_and_three_nearest_untied (hKernelIdeal := Cert.KernelIdeal.Gen.facts)
    (hReferenceIdeal := Cert.ReferenceIdeal.Gen.facts) (hPre_finite_and_three_nearest_untied := Cert.Pre_finite_and_three_nearest_untied.facts) := by
  intro m g m' g' hpre hargs
  refine ⟨fun c => Cert.KernelIdeal.Gen.OUT m c, fun c => m (c.tc.loc Cert.KernelIdeal.main_arg3), ?_, ?_⟩
  · refine (θ_run _ _ _).mono (fun r h c => ⟨?_, (h.2.1 c).2.2.2.1, h.2.1 c⟩) (θ_run_and (Cert.KernelIdeal.Gen.run_main m g) (Cert.KernelIdeal.Gen.frame m g))
    exact (h.1.1.out_eq c 7).trans (Cert.KernelIdeal.Gen.out_arr m c)
  · refine (θ_run _ _ _).mono (fun r h c => ⟨(h c).1.trans ?_, (h c).2.1.trans (hargs c).2.2.2.1, (h c).2.2⟩) (Cert.ReferenceIdeal.Value.run m' g')
    obtain ⟨h0, h1, h2, h3, h4, h5, h6, h7, h8, h9⟩ := hargs c
    refine Eq.trans ?_ (Cert.ReferenceIdeal.Value.stages_eq m hpre c)
    refine (Cert.ReferenceIdeal.Value.res_stages m' c).trans ?_
    rw [h0, h1, h2, h3, h4, h5, h6, h7, h8, h9]

/-- The claims, one after the other. -/
theorem claim : Cert.Claim := ⟨Cert.Kernel.Gen.facts, Cert.KernelIdeal.Gen.facts, Cert.ReferenceIdeal.Gen.facts, Cert.Pre_finite_and_three_nearest_untied.facts,
  fun m g _ => Cert.Kernel.Gen.frame m g, fun m g _ => Cert.KernelIdeal.Gen.frame m g, fun m g _ => Cert.KernelIdeal.Gen.frame m g,
  reference_frame, fun m g _ => reference_frame m g trivial, trivial, algebraic⟩

end Cert.Proof

end
